-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x2048 : Shape := ⟨3, ![4, 2048, 2048]⟩
abbrev S1x4 : Shape := ⟨2, ![1, 4]⟩
abbrev S1x64x2048x32 : Shape := ⟨4, ![1, 64, 2048, 32]⟩
abbrev S1x64x32 : Shape := ⟨3, ![1, 64, 32]⟩
abbrev S1x64x32x2048 : Shape := ⟨4, ![1, 64, 32, 2048]⟩
abbrev S1 : Shape := ⟨1, ![1]⟩
abbrev S1x1 : Shape := ⟨2, ![1, 1]⟩
abbrev S_ : Shape := ⟨0, ![]⟩
abbrev S1x4x1 : Shape := ⟨3, ![1, 4, 1]⟩
abbrev S1x4x2 : Shape := ⟨3, ![1, 4, 2]⟩
abbrev S1x4x2048x32 : Shape := ⟨4, ![1, 4, 2048, 32]⟩
abbrev S1x4x32 : Shape := ⟨3, ![1, 4, 32]⟩
abbrev S1x4x1x32 : Shape := ⟨4, ![1, 4, 1, 32]⟩
abbrev S1x4x32x2048 : Shape := ⟨4, ![1, 4, 32, 2048]⟩
abbrev S1x4x2048x2048 : Shape := ⟨4, ![1, 4, 2048, 2048]⟩
abbrev S1x1024x1024 : Shape := ⟨3, ![1, 1024, 1024]⟩
abbrev S1x1x1024x32 : Shape := ⟨4, ![1, 1, 1024, 32]⟩
abbrev S1x1x1x32 : Shape := ⟨4, ![1, 1, 1, 32]⟩
abbrev S1x1x32x2048 : Shape := ⟨4, ![1, 1, 32, 2048]⟩
abbrev S2x1024x2048 : Shape := ⟨3, ![2, 1024, 2048]⟩
abbrev S2x2 : Shape := ⟨2, ![2, 2]⟩
abbrev S1024x1024 : Shape := ⟨2, ![1024, 1024]⟩
abbrev S1024x32 : Shape := ⟨2, ![1024, 32]⟩
abbrev S32 : Shape := ⟨1, ![32]⟩
abbrev S32x2048 : Shape := ⟨2, ![32, 2048]⟩
abbrev S1x32 : Shape := ⟨2, ![1, 32]⟩
abbrev S1x1x512x2048 : Shape := ⟨4, ![1, 1, 512, 2048]⟩
abbrev S512x2048 : Shape := ⟨2, ![512, 2048]⟩
abbrev S1x512x2048 : Shape := ⟨3, ![1, 512, 2048]⟩
abbrev S512x32 : Shape := ⟨2, ![512, 32]⟩

abbrev nBuf : Space → Nat
  | .hbm => 66
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S1x4, .i32⟩
  | .hbm, ⟨2, _⟩ => ⟨S1x64x2048x32, .f32⟩
  | .hbm, ⟨3, _⟩ => ⟨S1x64x32, .f32⟩
  | .hbm, ⟨4, _⟩ => ⟨S1x64x32x2048, .f32⟩
  | .hbm, ⟨5, _⟩ => ⟨S1, .i32⟩
  | .hbm, ⟨6, _⟩ => ⟨S1x1, .i32⟩
  | .hbm, ⟨7, _⟩ => ⟨S_, .i32⟩
  | .hbm, ⟨8, _⟩ => ⟨S1x1, .i32⟩
  | .hbm, ⟨9, _⟩ => ⟨S1x1, .i1⟩
  | .hbm, ⟨10, _⟩ => ⟨S_, .i32⟩
  | .hbm, ⟨11, _⟩ => ⟨S1x1, .i32⟩
  | .hbm, ⟨12, _⟩ => ⟨S1x1, .i32⟩
  | .hbm, ⟨13, _⟩ => ⟨S1x1, .i32⟩
  | .hbm, ⟨14, _⟩ => ⟨S_, .i32⟩
  | .hbm, ⟨15, _⟩ => ⟨S1x4, .i32⟩
  | .hbm, ⟨16, _⟩ => ⟨S1x4, .i1⟩
  | .hbm, ⟨17, _⟩ => ⟨S_, .i32⟩
  | .hbm, ⟨18, _⟩ => ⟨S1x4, .i32⟩
  | .hbm, ⟨19, _⟩ => ⟨S1x4, .i32⟩
  | .hbm, ⟨20, _⟩ => ⟨S1x4, .i32⟩
  | .hbm, ⟨21, _⟩ => ⟨S1x4, .i32⟩
  | .hbm, ⟨22, _⟩ => ⟨S1x4x1, .i32⟩
  | .hbm, ⟨23, _⟩ => ⟨S1x4x1, .i32⟩
  | .hbm, ⟨24, _⟩ => ⟨S1x4x2, .i32⟩
  | .hbm, ⟨25, _⟩ => ⟨S1x4x2048x32, .f32⟩
  | .hbm, ⟨26, _⟩ => ⟨S_, .i32⟩
  | .hbm, ⟨27, _⟩ => ⟨S1x1, .i32⟩
  | .hbm, ⟨28, _⟩ => ⟨S1x1, .i1⟩
  | .hbm, ⟨29, _⟩ => ⟨S_, .i32⟩
  | .hbm, ⟨30, _⟩ => ⟨S1x1, .i32⟩
  | .hbm, ⟨31, _⟩ => ⟨S1x1, .i32⟩
  | .hbm, ⟨32, _⟩ => ⟨S1x1, .i32⟩
  | .hbm, ⟨33, _⟩ => ⟨S_, .i32⟩
  | .hbm, ⟨34, _⟩ => ⟨S1x4, .i32⟩
  | .hbm, ⟨35, _⟩ => ⟨S1x4, .i1⟩
  | .hbm, ⟨36, _⟩ => ⟨S_, .i32⟩
  | .hbm, ⟨37, _⟩ => ⟨S1x4, .i32⟩
  | .hbm, ⟨38, _⟩ => ⟨S1x4, .i32⟩
  | .hbm, ⟨39, _⟩ => ⟨S1x4, .i32⟩
  | .hbm, ⟨40, _⟩ => ⟨S1x4, .i32⟩
  | .hbm, ⟨41, _⟩ => ⟨S1x4x1, .i32⟩
  | .hbm, ⟨42, _⟩ => ⟨S1x4x1, .i32⟩
  | .hbm, ⟨43, _⟩ => ⟨S1x4x2, .i32⟩
  | .hbm, ⟨44, _⟩ => ⟨S1x4x32, .f32⟩
  | .hbm, ⟨45, _⟩ => ⟨S1x4x1x32, .f32⟩
  | .hbm, ⟨46, _⟩ => ⟨S_, .i32⟩
  | .hbm, ⟨47, _⟩ => ⟨S1x1, .i32⟩
  | .hbm, ⟨48, _⟩ => ⟨S1x1, .i1⟩
  | .hbm, ⟨49, _⟩ => ⟨S_, .i32⟩
  | .hbm, ⟨50, _⟩ => ⟨S1x1, .i32⟩
  | .hbm, ⟨51, _⟩ => ⟨S1x1, .i32⟩
  | .hbm, ⟨52, _⟩ => ⟨S1x1, .i32⟩
  | .hbm, ⟨53, _⟩ => ⟨S_, .i32⟩
  | .hbm, ⟨54, _⟩ => ⟨S1x4, .i32⟩
  | .hbm, ⟨55, _⟩ => ⟨S1x4, .i1⟩
  | .hbm, ⟨56, _⟩ => ⟨S_, .i32⟩
  | .hbm, ⟨57, _⟩ => ⟨S1x4, .i32⟩
  | .hbm, ⟨58, _⟩ => ⟨S1x4, .i32⟩
  | .hbm, ⟨59, _⟩ => ⟨S1x4, .i32⟩
  | .hbm, ⟨60, _⟩ => ⟨S1x4, .i32⟩
  | .hbm, ⟨61, _⟩ => ⟨S1x4x1, .i32⟩
  | .hbm, ⟨62, _⟩ => ⟨S1x4x1, .i32⟩
  | .hbm, ⟨63, _⟩ => ⟨S1x4x2, .i32⟩
  | .hbm, ⟨64, _⟩ => ⟨S1x4x32x2048, .f32⟩
  | .hbm, ⟨65, _⟩ => ⟨S1x4x2048x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024x32, .f32⟩
  | .local _ .vmem, ⟨5, _⟩ => ⟨S1x1x1024x32, .f32⟩
  | .local _ .vmem, ⟨6, _⟩ => ⟨S1x1x1024x32, .f32⟩
  | .local _ .vmem, ⟨7, _⟩ => ⟨S1x1x1024x32, .f32⟩
  | .local _ .vmem, ⟨8, _⟩ => ⟨S1x1x1x32, .f32⟩
  | .local _ .vmem, ⟨9, _⟩ => ⟨S1x1x1x32, .f32⟩
  | .local _ .vmem, ⟨10, _⟩ => ⟨S1x1x32x2048, .f32⟩
  | .local _ .vmem, ⟨11, _⟩ => ⟨S1x1x32x2048, .f32⟩
  | .local _ .vmem, ⟨12, _⟩ => ⟨S2x1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_c : Ref sig .tc := ⟨.hbm, 7, rfl⟩
abbrev main_call0_v2 : Ref sig .tc := ⟨.hbm, 8, rfl⟩
abbrev main_call0_v3 : Ref sig .tc := ⟨.hbm, 9, rfl⟩
abbrev main_call0_c_0 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c_1 : Ref sig .tc := ⟨.hbm, 14, rfl⟩
abbrev main_call0_v7 : Ref sig .tc := ⟨.hbm, 15, rfl⟩
abbrev main_call0_v8 : Ref sig .tc := ⟨.hbm, 16, rfl⟩
abbrev main_call0_c_2 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_c_3 : Ref sig .tc := ⟨.hbm, 26, rfl⟩
abbrev main_call0_v17 : Ref sig .tc := ⟨.hbm, 27, rfl⟩
abbrev main_call0_v18 : Ref sig .tc := ⟨.hbm, 28, rfl⟩
abbrev main_call0_c_4 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_c_5 : Ref sig .tc := ⟨.hbm, 33, rfl⟩
abbrev main_call0_v22 : Ref sig .tc := ⟨.hbm, 34, rfl⟩
abbrev main_call0_v23 : Ref sig .tc := ⟨.hbm, 35, rfl⟩
abbrev main_call0_c_6 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_c_7 : Ref sig .tc := ⟨.hbm, 46, rfl⟩
abbrev main_call0_v33 : Ref sig .tc := ⟨.hbm, 47, rfl⟩
abbrev main_call0_v34 : Ref sig .tc := ⟨.hbm, 48, rfl⟩
abbrev main_call0_c_8 : Ref sig .tc := ⟨.hbm, 49, rfl⟩
abbrev main_call0_v35 : Ref sig .tc := ⟨.hbm, 50, rfl⟩
abbrev main_call0_v36 : Ref sig .tc := ⟨.hbm, 51, rfl⟩
abbrev main_call0_v37 : Ref sig .tc := ⟨.hbm, 52, rfl⟩
abbrev main_call0_c_9 : Ref sig .tc := ⟨.hbm, 53, rfl⟩
abbrev main_call0_v38 : Ref sig .tc := ⟨.hbm, 54, rfl⟩
abbrev main_call0_v39 : Ref sig .tc := ⟨.hbm, 55, rfl⟩
abbrev main_call0_c_10 : Ref sig .tc := ⟨.hbm, 56, rfl⟩
abbrev main_call0_v40 : Ref sig .tc := ⟨.hbm, 57, rfl⟩
abbrev main_call0_v41 : Ref sig .tc := ⟨.hbm, 58, rfl⟩
abbrev main_call0_v42 : Ref sig .tc := ⟨.hbm, 59, rfl⟩
abbrev main_call0_v43 : Ref sig .tc := ⟨.hbm, 60, rfl⟩
abbrev main_call0_v44 : Ref sig .tc := ⟨.hbm, 61, rfl⟩
abbrev main_call0_v45 : Ref sig .tc := ⟨.hbm, 62, rfl⟩
abbrev main_call0_v46 : Ref sig .tc := ⟨.hbm, 63, rfl⟩
abbrev main_call0_v47 : Ref sig .tc := ⟨.hbm, 64, rfl⟩
abbrev main_v0 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_26 : BitVec 32 := 2#32
  let v34 : BitVec 1 := Scalar.cmpi .sge v3 c2_i32_26
  let v35 : BitVec 32 := Scalar.extui v34
  let c0_i32_27 : BitVec 32 := 0#32
  let v36 : BitVec 1 := Scalar.cmpi .ne v35 c0_i32_27
  v36

def k0_off1 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c0_i32_61 : BitVec 32 := 0#32
  ![v13.toNat, 0]
def k0_off2 (i : grid0.Coords) : Fin 4 → Nat :=
  let c0_i32_60 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_45 : BitVec 32 := 2#32
  let v67 : BitVec 32 := Scalar.subi v3 c2_i32_45
  let c0_i32_47 : BitVec 32 := 0#32
  let v69 : BitVec 1 := Scalar.cmpi .sgt v67 c0_i32_47
  let v70 : BitVec 32 := Scalar.extui v69
  let c0_i32_48 : BitVec 32 := 0#32
  let v71 : BitVec 1 := Scalar.cmpi .slt v67 c0_i32_48
  let v72 : BitVec 32 := Scalar.extui v71
  let v73 : BitVec 32 := Scalar.subi v70 v72
  let c2_i32_46 : BitVec 32 := 2#32
  let c0_i32_49 : BitVec 32 := 0#32
  let v74 : BitVec 1 := Scalar.cmpi .sgt c2_i32_46 c0_i32_49
  let v75 : BitVec 32 := Scalar.extui v74
  let c0_i32_50 : BitVec 32 := 0#32
  let v76 : BitVec 1 := Scalar.cmpi .slt c2_i32_46 c0_i32_50
  let v77 : BitVec 32 := Scalar.extui v76
  let v78 : BitVec 32 := Scalar.subi v75 v77
  let v79 : BitVec 1 := Scalar.cmpi .ne v73 v78
  let v80 : BitVec 32 := Scalar.remsi v67 c2_i32_46
  let c0_i32_51 : BitVec 32 := 0#32
  let v81 : BitVec 1 := Scalar.cmpi .ne v80 c0_i32_51
  let v82 : BitVec 1 := Scalar.andi v79 v81
  let v68 : BitVec 32 := Scalar.divsi v67 c2_i32_46
  let c1_i32_52 : BitVec 32 := 1#32
  let v83 : BitVec 32 := Scalar.subi v68 c1_i32_52
  let v84 : BitVec 32 := Scalar.select v82 v83 v68
  let c2_i32_53 : BitVec 32 := 2#32
  let c0_i32_54 : BitVec 32 := 0#32
  let v85 : BitVec 1 := Scalar.cmpi .eq c2_i32_53 c0_i32_54
  let c1_i32_55 : BitVec 32 := 1#32
  let v86 : BitVec 32 := Scalar.select v85 c1_i32_55 c2_i32_53
  let v87 : BitVec 32 := Scalar.remsi v67 v86
  let c0_i32_57 : BitVec 32 := 0#32
  let v89 : BitVec 1 := Scalar.cmpi .slt v87 c0_i32_57
  let c0_i32_58 : BitVec 32 := 0#32
  let v90 : BitVec 1 := Scalar.cmpi .slt v86 c0_i32_58
  let v91 : BitVec 1 := Scalar.xori v89 v90
  let c0_i32_56 : BitVec 32 := 0#32
  let v88 : BitVec 1 := Scalar.cmpi .ne v87 c0_i32_56
  let v92 : BitVec 1 := Scalar.andi v91 v88
  let v93 : BitVec 32 := Scalar.addi v87 v86
  let v94 : BitVec 32 := Scalar.select v92 v93 v87
  let c1024_i32_59 : BitVec 32 := 1024#32
  let v95 : BitVec 32 := Scalar.muli v94 c1024_i32_59
  let c0_i32_62 : BitVec 32 := 0#32
  ![0, v84.toNat, v95.toNat, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c0_i32_63 : BitVec 32 := 0#32
  let c0_i32_64 : BitVec 32 := 0#32
  ![v13.toNat, 0, 0]
def k0_off4 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c1_i32_67 : BitVec 32 := 1#32
  ![v13.toNat, 1]
def k0_off5 (i : grid0.Coords) : Fin 4 → Nat :=
  let c0_i32_66 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_45 : BitVec 32 := 2#32
  let v67 : BitVec 32 := Scalar.subi v3 c2_i32_45
  let c0_i32_47 : BitVec 32 := 0#32
  let v69 : BitVec 1 := Scalar.cmpi .sgt v67 c0_i32_47
  let v70 : BitVec 32 := Scalar.extui v69
  let c0_i32_48 : BitVec 32 := 0#32
  let v71 : BitVec 1 := Scalar.cmpi .slt v67 c0_i32_48
  let v72 : BitVec 32 := Scalar.extui v71
  let v73 : BitVec 32 := Scalar.subi v70 v72
  let c2_i32_46 : BitVec 32 := 2#32
  let c0_i32_49 : BitVec 32 := 0#32
  let v74 : BitVec 1 := Scalar.cmpi .sgt c2_i32_46 c0_i32_49
  let v75 : BitVec 32 := Scalar.extui v74
  let c0_i32_50 : BitVec 32 := 0#32
  let v76 : BitVec 1 := Scalar.cmpi .slt c2_i32_46 c0_i32_50
  let v77 : BitVec 32 := Scalar.extui v76
  let v78 : BitVec 32 := Scalar.subi v75 v77
  let v79 : BitVec 1 := Scalar.cmpi .ne v73 v78
  let v80 : BitVec 32 := Scalar.remsi v67 c2_i32_46
  let c0_i32_51 : BitVec 32 := 0#32
  let v81 : BitVec 1 := Scalar.cmpi .ne v80 c0_i32_51
  let v82 : BitVec 1 := Scalar.andi v79 v81
  let v68 : BitVec 32 := Scalar.divsi v67 c2_i32_46
  let c1_i32_52 : BitVec 32 := 1#32
  let v83 : BitVec 32 := Scalar.subi v68 c1_i32_52
  let v84 : BitVec 32 := Scalar.select v82 v83 v68
  let c2_i32_53 : BitVec 32 := 2#32
  let c0_i32_54 : BitVec 32 := 0#32
  let v85 : BitVec 1 := Scalar.cmpi .eq c2_i32_53 c0_i32_54
  let c1_i32_55 : BitVec 32 := 1#32
  let v86 : BitVec 32 := Scalar.select v85 c1_i32_55 c2_i32_53
  let v87 : BitVec 32 := Scalar.remsi v67 v86
  let c0_i32_57 : BitVec 32 := 0#32
  let v89 : BitVec 1 := Scalar.cmpi .slt v87 c0_i32_57
  let c0_i32_58 : BitVec 32 := 0#32
  let v90 : BitVec 1 := Scalar.cmpi .slt v86 c0_i32_58
  let v91 : BitVec 1 := Scalar.xori v89 v90
  let c0_i32_56 : BitVec 32 := 0#32
  let v88 : BitVec 1 := Scalar.cmpi .ne v87 c0_i32_56
  let v92 : BitVec 1 := Scalar.andi v91 v88
  let v93 : BitVec 32 := Scalar.addi v87 v86
  let v94 : BitVec 32 := Scalar.select v92 v93 v87
  let c1024_i32_59 : BitVec 32 := 1024#32
  let v95 : BitVec 32 := Scalar.muli v94 c1024_i32_59
  let c512_i32_65 : BitVec 32 := 512#32
  let v102 : BitVec 32 := Scalar.addi v95 c512_i32_65
  let c0_i32_68 : BitVec 32 := 0#32
  ![0, v84.toNat, v102.toNat, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c512_i32_69 : BitVec 32 := 512#32
  let c0_i32_70 : BitVec 32 := 0#32
  ![v13.toNat, 512, 0]
def k0_off7 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v39 : Index := Scalar.indexCast v13
  let c0_29 : Index := 0#32
  let c0_30 : Index := 0#32
  ![v39.toNat, 0, 0]
def k0_off8 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c0_i32_32 : BitVec 32 := 0#32
  ![v13.toNat, 0]
def k0_off9 (i : grid0.Coords) : Fin 4 → Nat :=
  let c0_i32_31 : BitVec 32 := 0#32
  let arg1 : BitVec 32 := BitVec.ofNat 32 (i 1).val
  let arg2 : BitVec 32 := BitVec.ofNat 32 (i 2).val
  let c1024_i32 : BitVec 32 := 1024#32
  let v43 : BitVec 32 := Scalar.muli arg2 c1024_i32
  let c0_i32_33 : BitVec 32 := 0#32
  ![0, arg1.toNat, v43.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c0_i32_34 : BitVec 32 := 0#32
  let c0_i32_35 : BitVec 32 := 0#32
  ![v13.toNat, 0, 0]
def k0_off11 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v52 : Index := Scalar.indexCast v13
  let c512 : Index := 512#32
  let c0_37 : Index := 0#32
  ![v52.toNat, 512, 0]
def k0_off12 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c1_i32_40 : BitVec 32 := 1#32
  ![v13.toNat, 1]
def k0_off13 (i : grid0.Coords) : Fin 4 → Nat :=
  let c0_i32_39 : BitVec 32 := 0#32
  let arg1 : BitVec 32 := BitVec.ofNat 32 (i 1).val
  let arg2 : BitVec 32 := BitVec.ofNat 32 (i 2).val
  let c1024_i32_38 : BitVec 32 := 1024#32
  let v56 : BitVec 32 := Scalar.muli arg2 c1024_i32_38
  let c512_i32 : BitVec 32 := 512#32
  let v57 : BitVec 32 := Scalar.addi v56 c512_i32
  let c0_i32_41 : BitVec 32 := 0#32
  ![0, arg1.toNat, v57.toNat, 0]
def k0_off14 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.muli v1 c2_i32
  let arg2 : BitVec 32 := BitVec.ofNat 32 (i 2).val
  let v3 : BitVec 32 := Scalar.addi v2 arg2
  let c2_i32_0 : BitVec 32 := 2#32
  let c0_i32 : BitVec 32 := 0#32
  let v4 : BitVec 1 := Scalar.cmpi .eq c2_i32_0 c0_i32
  let c1_i32 : BitVec 32 := 1#32
  let v5 : BitVec 32 := Scalar.select v4 c1_i32 c2_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c512_i32_42 : BitVec 32 := 512#32
  let c0_i32_43 : BitVec 32 := 0#32
  ![v13.toNat, 512, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, arg2.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, arg1.toNat, c1_i32.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S4x2048x2048 : Shape := ⟨3, ![4, 2048, 2048]⟩
abbrev S1x4 : Shape := ⟨2, ![1, 4]⟩
abbrev S1x64x2048x32 : Shape := ⟨4, ![1, 64, 2048, 32]⟩
abbrev S1x64x32 : Shape := ⟨3, ![1, 64, 32]⟩
abbrev S1x64x32x2048 : Shape := ⟨4, ![1, 64, 32, 2048]⟩
abbrev S1 : Shape := ⟨1, ![1]⟩
abbrev S1x1 : Shape := ⟨2, ![1, 1]⟩
abbrev S_ : Shape := ⟨0, ![]⟩
abbrev S1x4x1 : Shape := ⟨3, ![1, 4, 1]⟩
abbrev S1x4x2 : Shape := ⟨3, ![1, 4, 2]⟩
abbrev S1x4x2048x32 : Shape := ⟨4, ![1, 4, 2048, 32]⟩
abbrev S1x4x32 : Shape := ⟨3, ![1, 4, 32]⟩
abbrev S1x4x32x2048 : Shape := ⟨4, ![1, 4, 32, 2048]⟩
abbrev S1x4x2048x2048 : Shape := ⟨4, ![1, 4, 2048, 2048]⟩
abbrev S4x2048x32 : Shape := ⟨3, ![4, 2048, 32]⟩
abbrev S1x4x1x32 : Shape := ⟨4, ![1, 4, 1, 32]⟩
abbrev S4x32x2048 : Shape := ⟨3, ![4, 32, 2048]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x4, .i32⟩
  | .hbm, ⟨2, _⟩ => ⟨S1x64x2048x32, .f32⟩
  | .hbm, ⟨3, _⟩ => ⟨S1x64x32, .f32⟩
  | .hbm, ⟨4, _⟩ => ⟨S1x64x32x2048, .f32⟩
  | .hbm, ⟨5, _⟩ => ⟨S1, .i32⟩
  | .hbm, ⟨6, _⟩ => ⟨S1x1, .i32⟩
  | .hbm, ⟨7, _⟩ => ⟨S_, .i32⟩
  | .hbm, ⟨8, _⟩ => ⟨S1x1, .i32⟩
  | .hbm, ⟨9, _⟩ => ⟨S1x1, .i1⟩
  | .hbm, ⟨10, _⟩ => ⟨S_, .i32⟩
  | .hbm, ⟨11, _⟩ => ⟨S1x1, .i32⟩
  | .hbm, ⟨12, _⟩ => ⟨S1x1, .i32⟩
  | .hbm, ⟨13, _⟩ => ⟨S1x1, .i32⟩
  | .hbm, ⟨14, _⟩ => ⟨S_, .i32⟩
  | .hbm, ⟨15, _⟩ => ⟨S1x4, .i32⟩
  | .hbm, ⟨16, _⟩ => ⟨S1x4, .i1⟩
  | .hbm, ⟨17, _⟩ => ⟨S_, .i32⟩
  | .hbm, ⟨18, _⟩ => ⟨S1x4, .i32⟩
  | .hbm, ⟨19, _⟩ => ⟨S1x4, .i32⟩
  | .hbm, ⟨20, _⟩ => ⟨S1x4, .i32⟩
  | .hbm, ⟨21, _⟩ => ⟨S1x4, .i32⟩
  | .hbm, ⟨22, _⟩ => ⟨S1x4x1, .i32⟩
  | .hbm, ⟨23, _⟩ => ⟨S1x4x1, .i32⟩
  | .hbm, ⟨24, _⟩ => ⟨S1x4x2, .i32⟩
  | .hbm, ⟨25, _⟩ => ⟨S1x4x2048x32, .f32⟩
  | .hbm, ⟨26, _⟩ => ⟨S_, .i32⟩
  | .hbm, ⟨27, _⟩ => ⟨S1x1, .i32⟩
  | .hbm, ⟨28, _⟩ => ⟨S1x1, .i1⟩
  | .hbm, ⟨29, _⟩ => ⟨S_, .i32⟩
  | .hbm, ⟨30, _⟩ => ⟨S1x1, .i32⟩
  | .hbm, ⟨31, _⟩ => ⟨S1x1, .i32⟩
  | .hbm, ⟨32, _⟩ => ⟨S1x1, .i32⟩
  | .hbm, ⟨33, _⟩ => ⟨S_, .i32⟩
  | .hbm, ⟨34, _⟩ => ⟨S1x4, .i32⟩
  | .hbm, ⟨35, _⟩ => ⟨S1x4, .i1⟩
  | .hbm, ⟨36, _⟩ => ⟨S_, .i32⟩
  | .hbm, ⟨37, _⟩ => ⟨S1x4, .i32⟩
  | .hbm, ⟨38, _⟩ => ⟨S1x4, .i32⟩
  | .hbm, ⟨39, _⟩ => ⟨S1x4, .i32⟩
  | .hbm, ⟨40, _⟩ => ⟨S1x4, .i32⟩
  | .hbm, ⟨41, _⟩ => ⟨S1x4x1, .i32⟩
  | .hbm, ⟨42, _⟩ => ⟨S1x4x1, .i32⟩
  | .hbm, ⟨43, _⟩ => ⟨S1x4x2, .i32⟩
  | .hbm, ⟨44, _⟩ => ⟨S1x4x32, .f32⟩
  | .hbm, ⟨45, _⟩ => ⟨S_, .i32⟩
  | .hbm, ⟨46, _⟩ => ⟨S1x1, .i32⟩
  | .hbm, ⟨47, _⟩ => ⟨S1x1, .i1⟩
  | .hbm, ⟨48, _⟩ => ⟨S_, .i32⟩
  | .hbm, ⟨49, _⟩ => ⟨S1x1, .i32⟩
  | .hbm, ⟨50, _⟩ => ⟨S1x1, .i32⟩
  | .hbm, ⟨51, _⟩ => ⟨S1x1, .i32⟩
  | .hbm, ⟨52, _⟩ => ⟨S_, .i32⟩
  | .hbm, ⟨53, _⟩ => ⟨S1x4, .i32⟩
  | .hbm, ⟨54, _⟩ => ⟨S1x4, .i1⟩
  | .hbm, ⟨55, _⟩ => ⟨S_, .i32⟩
  | .hbm, ⟨56, _⟩ => ⟨S1x4, .i32⟩
  | .hbm, ⟨57, _⟩ => ⟨S1x4, .i32⟩
  | .hbm, ⟨58, _⟩ => ⟨S1x4, .i32⟩
  | .hbm, ⟨59, _⟩ => ⟨S1x4, .i32⟩
  | .hbm, ⟨60, _⟩ => ⟨S1x4x1, .i32⟩
  | .hbm, ⟨61, _⟩ => ⟨S1x4x1, .i32⟩
  | .hbm, ⟨62, _⟩ => ⟨S1x4x2, .i32⟩
  | .hbm, ⟨63, _⟩ => ⟨S1x4x32x2048, .f32⟩
  | .hbm, ⟨64, _⟩ => ⟨S1x4x2048x2048, .f32⟩
  | .hbm, ⟨65, _⟩ => ⟨S4x2048x2048, .f32⟩
  | .hbm, ⟨66, _⟩ => ⟨S4x2048x32, .f32⟩
  | .hbm, ⟨67, _⟩ => ⟨S4x2048x32, .f32⟩
  | .hbm, ⟨68, _⟩ => ⟨S1x4x2048x32, .f32⟩
  | .hbm, ⟨69, _⟩ => ⟨S1x4x1x32, .f32⟩
  | .hbm, ⟨70, _⟩ => ⟨S1x4x2048x32, .f32⟩
  | .hbm, ⟨71, _⟩ => ⟨S1x4x2048x32, .f32⟩
  | .hbm, ⟨72, _⟩ => ⟨S1x4x2048x32, .f32⟩
  | .hbm, ⟨73, _⟩ => ⟨S1x4x2048x32, .f32⟩
  | .hbm, ⟨74, _⟩ => ⟨S_, .f32⟩
  | .hbm, ⟨75, _⟩ => ⟨S1x4x2048x32, .f32⟩
  | .hbm, ⟨76, _⟩ => ⟨S1x4x2048x32, .f32⟩
  | .hbm, ⟨77, _⟩ => ⟨S_, .f32⟩
  | .hbm, ⟨78, _⟩ => ⟨S1x4x2048x32, .f32⟩
  | .hbm, ⟨79, _⟩ => ⟨S1x4x2048x32, .f32⟩
  | .hbm, ⟨80, _⟩ => ⟨S1x4x2048x32, .f32⟩
  | .hbm, ⟨81, _⟩ => ⟨S4x2048x32, .f32⟩
  | .hbm, ⟨82, _⟩ => ⟨S4x32x2048, .f32⟩
  | .hbm, ⟨83, _⟩ => ⟨S4x2048x2048, .f32⟩
  | .hbm, ⟨84, _⟩ => ⟨S1x4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.KernelValue.Halves.lean ====
/- What one grid point of the kernel writes into the result, and the two facts that carry it there: the copy of a tile
   that was just stored carries the stored half (`tile_read`), and a piece of the result is determined by what its view
   reads (`piece_landed`). -/
module

public import proofs.«01_k».proof.Proof.Gen.KernelIdeal.Frame.Runs
public import Idealize.ShloMosaic.Lib.VecWindow

@[expose] public section

set_option maxRecDepth 16384

noncomputable section

namespace Cert.KernelIdeal.Out

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two halves (rows 0–511 and rows 512–1023) of the block of the result that a grid point computes from its six
    input blocks. -/
def half (x0 x1 : Vec F S1x1024x1024 .f32) (x2 x3 : Vec F S1x1x1024x32 .f32) (x4 : Vec F S1x1x1x32 .f32)
    (x5 : Vec F S1x1x32x2048 .f32) : Fin 2 → Vec F S512x2048 .f32
  | 0 => shapeCast S512x2048 (k0_pay8 (k0_pay1 x0) (k0_pay2 x1) (k0_pay3 x2) (k0_pay4 x3) (k0_pay5 x4) (k0_pay6 x5)
      (constant S1024x32 .f32 0x00000000#32)) shapeCasts_S1x512x2048_S512x2048
  | 1 => shapeCast S512x2048 (k0_pay9 (k0_pay1 x0) (k0_pay2 x1) (k0_pay3 x2) (k0_pay4 x3) (k0_pay5 x4) (k0_pay6 x5)
      (constant S1024x32 .f32 0x00000000#32)) shapeCasts_S1x512x2048_S512x2048

/-- A load of a whole memref's full extent, the memref held at the contents that read `x`, gives `x`. -/
theorem loaded {sp : Space} {s : Shape} {e : EltTy} {M : Memref sig .tc sp s e} (h : M.IsWhole) (x : s.Idx → Elt F e)
    {off : Fin s.rank → Nat} (inb : ∀ a, off a + s.size a ≤ s.size a) :
    View.readAt (Elt F) M.view (Rect.unit off s.size inb).toLoadRect (h.unread x) = x :=
  (View.readAt_full M.view _ inb).trans (h.read_unread x)

/-- A reshaped view reads, at an index, what the view reads at the index of the same row-major position. -/
theorem read_reshape {κ : Kind} {sp : Space} {s : Shape} {e : EltTy} (v : View sig κ sp s e) (s' : Shape)
    (h : s'.numel = s.numel) (f : v.ty.Contents (Elt F)) :
    (v.reshape s' h).read (Elt F) f = shapeCast s' (v.read (Elt F) f) h := rfl

/-- What is written through a slice of a view is what the reshaped slice reads, up to the reshape. -/
theorem read_slice_write {κ : Kind} {sp : Space} {s : Shape} {e : EltTy} (v : View sig κ sp s e) (r : Rect s) (s' : Shape)
    (h : s'.numel = r.shape.numel) (f : v.ty.Contents (Elt F)) (w : r.shape.Idx → Elt F e) :
    ((v.slice r).reshape s' h).read (Elt F) ((v.slice r).write (Elt F) f w Finset.univ) = shapeCast s' w h := by
  rw [read_reshape]
  exact congrArg (fun z => shapeCast s' z h) (View.read_write_univ (v := v.slice r) f w)

/-- Contents a view reads alike are equal on the view's elements. -/
theorem eq_of_read_eq {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨x, -, rfl⟩ := Finset.mem_map.1 hi
  exact (cast_inj _).1 (congrFun h x)

/-- Reading tile `(g, k)` after a store of `w` over exactly its elements gives `w`, without its leading unit axis. -/
theorem tile_read (g k : Fin 2) (off : Fin 3 → Nat) (hoff : off = ![g.val, 512 * k.val, 0])
    (inb : ∀ a, off a + S1x512x2048.size a ≤ S2x1024x2048.size a) (e : scM0_0.view.ty.Contents (Elt F))
    (w : Vec F S1x512x2048 .f32) :
    (wtile0_0 g k).view.read (Elt F)
        ((scM0_0.access (Rect.unit (s := S2x1024x2048) off S1x512x2048.size inb)).write (Elt F) e w Finset.univ)
      = shapeCast S512x2048 w shapeCasts_S1x512x2048_S512x2048 := by
  subst hoff
  exact read_slice_write scM0_0.view (Rect.unit (s := S2x1024x2048) ![g.val, 512 * k.val, 0] S1x512x2048.size inb) S512x2048
    shapeCasts_S1x512x2048_S512x2048 e w

/-- A piece of the result into which `y` has landed is that piece at `G`, for any contents `G` that read `y` there. -/
theorem piece_landed (c : Dev nD) (u : Fin 8) (k : Fin 2) (f G : HbBuf0 (F := F) c (wpiece0_0 u k)) (y : Vec F S512x2048 .f32)
    (hG : (wpiece0_0 u k).view.read (Elt F) G = y) :
    (wpieceP0_0 c u k ((wpiece0_0 u k).view.writes (Elt F) f [⟨Rect.whole S512x2048, y⟩]) : sProp 𝕄) = wpieceP0_0 c u k G :=
  pointsTo_congr (eq_of_read_eq (wpiece0_0 u k).view _ _ ((View.read_writes_whole (wpiece0_0 u k).view f y).trans hG.symm))

/-- The same with the landed value under a name `z`, as an entailment. -/
theorem piece_home (c : Dev nD) (u : Fin 8) (k : Fin 2) (f G : HbBuf0 (F := F) c (wpiece0_0 u k)) (z y : Vec F S512x2048 .f32)
    (hz : z = y) (hG : (wpiece0_0 u k).view.read (Elt F) G = y) :
    (wpieceP0_0 c u k ((wpiece0_0 u k).view.writes (Elt F) f [⟨Rect.whole S512x2048, z⟩]) : sProp 𝕄) ⊢ wpieceP0_0 c u k G := by
  rw [piece_landed c u k f G z (hG.trans hz.symm)]

/-- A whole memref owned at `x` is its points-to at the raw contents that read `x`. -/
theorem owns_eq (c : Dev nD) {sp : Space} {s : Shape} {e : EltTy} (M : Memref sig .tc sp s e) (h : M.IsWhole) (x : s.Idx → Elt F e) :
    (owns (c : Thread nD τ) M fullShare x : sProp 𝕄)
      = (M.view.loc (c : Thread nD τ) ↦[M.view.set]{fullShare} h.unread x) := by
  have h1 : (owns (c : Thread nD τ) M fullShare x : sProp 𝕄)
      ⊢ (M.view.loc (c : Thread nD τ) ↦[M.view.set]{fullShare} h.unread x) := by
    unfold owns
    iintro ⟨%f, %hf, H⟩
    obtain rfl := h.eq_unread hf
    iexact H
  have h2 : (M.view.loc (c : Thread nD τ) ↦[M.view.set]{fullShare} h.unread x)
      ⊢ (owns (c : Thread nD τ) M fullShare x : sProp 𝕄) := by
    unfold owns
    iintro H
    iexists _; isplitr; · ipureintro; exact h.read_unread x
    iexact H
  exact BI.Entails.antisymm h1 h2

/-- The six staging memrefs of a grid point, each owned at its block. -/
def staged (c : Dev nD) (arg3 arg4 : Memref sig .tc .vmem S1x1024x1024 .f32) (arg5 arg6 : Memref sig .tc .vmem S1x1x1024x32 .f32)
    (arg7 : Memref sig .tc .vmem S1x1x1x32 .f32) (arg8 : Memref sig .tc .vmem S1x1x32x2048 .f32)
    (x0 x1 : Vec F S1x1024x1024 .f32) (x2 x3 : Vec F S1x1x1024x32 .f32) (x4 : Vec F S1x1x1x32 .f32)
    (x5 : Vec F S1x1x32x2048 .f32) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5)

/-- The two pieces of the result that step `u` writes, held at the contents `G`. -/
abbrev written (c : Dev nD) (G : HbBuf0 (F := F) c hbM0_0) (u : Fin 8) : sProp 𝕄 :=
  iprop(wpieceP0_0 c u 0 G ∗ wpieceP0_0 c u 1 G)

/-- The flight of tile `(g, k)`'s copy to piece `(u, k)` of the result, which delivers the piece at the contents `G`. -/
abbrev flight (c : Dev nD) (G : HbBuf0 (F := F) c hbM0_0) (g k : Fin 2) (u : Fin 8) : sProp 𝕄 :=
  iprop(∃ e, Transfers.Flight countersEmb (c : Thread nD τ) (wcellR0_0 g k) default ((wpiece0_0 u k).view.amount (wcellR0_0 g k))
    iprop(wpieceP0_0 c u k G ∗ wtileP0_0 c g k e))

/-- A flight that delivers a piece into which `z` has landed delivers the piece at `G`, if `z` is what `G` reads there. -/
theorem flight_landed (c : Dev nD) (G : HbBuf0 (F := F) c hbM0_0) (g k : Fin 2) (u : Fin 8) (f : HbBuf0 (F := F) c (wpiece0_0 u k))
    (e : HbBuf0 (F := F) c (wtile0_0 g k)) (z y : Vec F S512x2048 .f32) (hz : z = y)
    (hG : (wpiece0_0 u k).view.read (Elt F) G = y) :
    (Transfers.Flight countersEmb (c : Thread nD τ) (wcellR0_0 g k) default ((wpiece0_0 u k).view.amount (wcellR0_0 g k))
        iprop(wpieceP0_0 c u k ((wpiece0_0 u k).view.writes (Elt F) f [⟨Rect.whole S512x2048, z⟩]) ∗ wtileP0_0 c g k e) : sProp 𝕄)
      ⊢ flight c G g k u := by
  rw [piece_landed c u k f G z (hG.trans hz.symm)]
  iintro H
  iexists e; iexact H

/-- The two flights of slot `g`'s tiles to the pieces of step `u`. -/
abbrev flights (c : Dev nD) (G : HbBuf0 (F := F) c hbM0_0) (g : Fin 2) (u : Fin 8) : sProp 𝕄 :=
  iprop(flight c G g 0 u ∗ flight c G g 1 u)

end Cert.KernelIdeal.Out

end
-- ==== Proof.KernelValue.Runs.lean ====
/- The kernel's body at one grid point, in its three cases: the first two points (`run_first`), the points between
   (`run_middle`) and the last (`run_last`). Each says which pieces of the result come home at the contents `G` and which
   flights are left that will deliver pieces at `G`; the proofs run the body and carry the stored halves through the copies. -/
module

public import proofs.«01_k».proof.Proof.KernelValue.Halves

@[expose] public section

set_option maxRecDepth 16384

noncomputable section

namespace Cert.KernelIdeal.Out

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (t : Fin cfg0.N)
  (arg3 : Memref sig .tc .vmem S1x1024x1024 .f32) (harg3 : arg3.IsWhole)
  (arg4 : Memref sig .tc .vmem S1x1024x1024 .f32) (harg4 : arg4.IsWhole)
  (arg5 : Memref sig .tc .vmem S1x1x1024x32 .f32) (harg5 : arg5.IsWhole)
  (arg6 : Memref sig .tc .vmem S1x1x1024x32 .f32) (harg6 : arg6.IsWhole)
  (arg7 : Memref sig .tc .vmem S1x1x1x32 .f32) (harg7 : arg7.IsWhole)
  (arg8 : Memref sig .tc .vmem S1x1x32x2048 .f32) (harg8 : arg8.IsWhole)
  (x0 x1 : Vec F S1x1024x1024 .f32) (x2 x3 : Vec F S1x1x1024x32 .f32) (x4 : Vec F S1x1x1x32 .f32)
  (x5 : Vec F S1x1x32x2048 .f32) (G : HbBuf0 (F := F) c hbM0_0)

set_option maxHeartbeats 1000000 in
/-- One of the first two grid points: its slot's tiles are free, it waits for nothing, and it leaves its own two
    flights, which will deliver its pieces at `G`, if `G` holds there the two halves the point computes. -/
theorem run_first (hc0 : ¬cond0_0 (grid0.coords t)) (hc1 : ¬cond0_1 (grid0.coords t))
    (hG : ∀ k, (wpiece0_0 (Ring.bk 8 t.val) k).view.read (Elt F) G = half x0 x1 x2 x3 x4 x5 k)
    (W : Waits sig Unit) (K : PUnit → sProp 𝕄) :
    iprop(staged c arg3 arg4 arg5 arg6 arg7 arg8 x0 x1 x2 x3 x4 x5
        ∗ (whome0_0 c (Ring.bk 8 t.val) ∗ wfree0_0 c (Ring.sl 2 t.val))
        ∗ owes (c : Thread nD τ) 0 W
        ∗ (iprop(staged c arg3 arg4 arg5 arg6 arg7 arg8 x0 x1 x2 x3 x4 x5
            ∗ (flights c G (Ring.sl 2 t.val) (Ring.bk 8 t.val))
            ∗ (∃ W', owes (c : Thread nD τ) 0 W')) -∗ K ⟨⟩))
      ⊢ wp frame (wpE (defs₀ (F := F)) Variants.none c none) Set.univ
          (cc0__adapter_body (grid0.coords t) arg3 harg3 arg4 harg4 arg5 harg5 arg6 harg6 arg7 harg7 arg8 harg8
            (Memref.whole main_v0) (Memref.isWhole_whole _) scM0_0 (Memref.isWhole_whole _) cc0_scratch1) K := by
  haveI : Fact (¬cond0_0 (grid0.coords t)) := ⟨hc0⟩
  haveI : Fact (¬cond0_1 (grid0.coords t)) := ⟨hc1⟩
  simp only [cc0__adapter_body_eq_skeleton]; unfold cc0__adapter_body_skel
  simp only [k0_part3_eq_skeleton, k0_part4_eq_skeleton]
  unfold staged
  simp only [owns_eq c _ harg3, owns_eq c _ harg4, owns_eq c _ harg5, owns_eq c _ harg6, owns_eq c _ harg7, owns_eq c _ harg8]
  iintro ⟨⟨H0, H1, H2, H3, H4, H5⟩, ⟨⟨⟨%fp0, Hp0⟩, ⟨%fp1, Hp1⟩⟩, ⟨HF0, ⟨%e0, HT0⟩⟩, HF1, ⟨%e1, HT1⟩⟩, HW, Hk⟩
  sl_exec (disch := first | sl_exact hc0 | sl_exact hc1)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  have h0 : run_first.sl.dma8 c t arg3 harg3 arg4 harg4 arg5 harg5 arg6 harg6 arg7 harg7 arg8 harg8 x0 x1 x2 x3 x4 x5 e0
      = half x0 x1 x2 x3 x4 x5 0 := by
    unfold run_first.sl.dma8 run_first.sl.HT0_w1 run_first.sl.r run_first.sl.r_1 run_first.sl.r_2 run_first.sl.r_3 run_first.sl.r_4 run_first.sl.r_5 run_first.sl.cst
    rw [loaded harg3, loaded harg4, loaded harg5, loaded harg6, loaded harg7, loaded harg8]
    exact tile_read (F := F) (Ring.sl 2 t.val) 0 _ (wcoff0_0_19 t) _ _ _
  have h1 : run_first.sl.dma10 c t arg3 harg3 arg4 harg4 arg5 harg5 arg6 harg6 arg7 harg7 arg8 harg8 x0 x1 x2 x3 x4 x5 e1
      = half x0 x1 x2 x3 x4 x5 1 := by
    unfold run_first.sl.dma10 run_first.sl.HT1_w2 run_first.sl.r run_first.sl.r_1 run_first.sl.r_2 run_first.sl.r_3 run_first.sl.r_4 run_first.sl.r_5 run_first.sl.cst
    rw [loaded harg3, loaded harg4, loaded harg5, loaded harg6, loaded harg7, loaded harg8]
    exact tile_read (F := F) (Ring.sl 2 t.val) 1 _ (wcoff0_0_20 t) _ _ _
  isplitl [HF0 HF1]
  · isplitl [HF0]
    · iapply (flight_landed c G _ _ _ fp0 _ _ _ h0 (hG 0))
      iexact HF0
    iapply (flight_landed c G _ _ _ fp1 _ _ _ h1 (hG 1))
    iexact HF1
  iexists _; iexact HW

set_option maxHeartbeats 1000000 in
/-- A grid point from the third on and before the last: it waits for the two flights of the step two before, whose
    pieces come home at `G`, and leaves its own two flights, which will deliver its pieces at `G` as well, if `G` holds
    there the two halves the point computes. -/
theorem run_middle (hc0 : cond0_0 (grid0.coords t)) (hc1 : ¬cond0_1 (grid0.coords t))
    (hG : ∀ k, (wpiece0_0 (Ring.bk 8 t.val) k).view.read (Elt F) G = half x0 x1 x2 x3 x4 x5 k)
    (W : Waits sig Unit) (K : PUnit → sProp 𝕄) :
    iprop(staged c arg3 arg4 arg5 arg6 arg7 arg8 x0 x1 x2 x3 x4 x5
        ∗ (whome0_0 c (Ring.bk 8 t.val) ∗ flights c G (Ring.sl 2 t.val) (Ring.bk 8 (t.val - 2)))
        ∗ owes (c : Thread nD τ) 0 W
        ∗ (iprop(staged c arg3 arg4 arg5 arg6 arg7 arg8 x0 x1 x2 x3 x4 x5
            ∗ (written c G (Ring.bk 8 (t.val - 2)) ∗ flights c G (Ring.sl 2 t.val) (Ring.bk 8 t.val))
            ∗ (∃ W', owes (c : Thread nD τ) 0 W')) -∗ K ⟨⟩))
      ⊢ wp frame (wpE (defs₀ (F := F)) Variants.none c none) Set.univ
          (cc0__adapter_body (grid0.coords t) arg3 harg3 arg4 harg4 arg5 harg5 arg6 harg6 arg7 harg7 arg8 harg8
            (Memref.whole main_v0) (Memref.isWhole_whole _) scM0_0 (Memref.isWhole_whole _) cc0_scratch1) K := by
  haveI : Fact (cond0_0 (grid0.coords t)) := ⟨hc0⟩
  haveI : Fact (¬cond0_1 (grid0.coords t)) := ⟨hc1⟩
  simp only [cc0__adapter_body_eq_skeleton]; unfold cc0__adapter_body_skel
  simp only [k0_part3_eq_skeleton, k0_part4_eq_skeleton, k0_part1_eq_skeleton]
  unfold staged
  simp only [owns_eq c _ harg3, owns_eq c _ harg4, owns_eq c _ harg5, owns_eq c _ harg6, owns_eq c _ harg7, owns_eq c _ harg8]
  iintro ⟨⟨H0, H1, H2, H3, H4, H5⟩, ⟨⟨⟨%fp0, Hp0⟩, ⟨%fp1, Hp1⟩⟩, ⟨%e0, HF0⟩, ⟨%e1, HF1⟩⟩, HW, Hk⟩
  sl_exec (disch := first | sl_exact hc0 | sl_exact hc1)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  have h0 : run_middle.sl.dma8 c t arg3 harg3 arg4 harg4 arg5 harg5 arg6 harg6 arg7 harg7 arg8 harg8 x0 x1 x2 x3 x4 x5 e0
      = half x0 x1 x2 x3 x4 x5 0 := by
    unfold run_middle.sl.dma8 run_middle.sl.HF0_src_w1 run_middle.sl.r run_middle.sl.r_1 run_middle.sl.r_2 run_middle.sl.r_3 run_middle.sl.r_4 run_middle.sl.r_5 run_middle.sl.cst
    rw [loaded harg3, loaded harg4, loaded harg5, loaded harg6, loaded harg7, loaded harg8]
    exact tile_read (F := F) (Ring.sl 2 t.val) 0 _ (wcoff0_0_19 t) _ _ _
  have h1 : run_middle.sl.dma10 c t arg3 harg3 arg4 harg4 arg5 harg5 arg6 harg6 arg7 harg7 arg8 harg8 x0 x1 x2 x3 x4 x5 e1
      = half x0 x1 x2 x3 x4 x5 1 := by
    unfold run_middle.sl.dma10 run_middle.sl.HF1_src_w2 run_middle.sl.r run_middle.sl.r_1 run_middle.sl.r_2 run_middle.sl.r_3 run_middle.sl.r_4 run_middle.sl.r_5 run_middle.sl.cst
    rw [loaded harg3, loaded harg4, loaded harg5, loaded harg6, loaded harg7, loaded harg8]
    exact tile_read (F := F) (Ring.sl 2 t.val) 1 _ (wcoff0_0_20 t) _ _ _
  isplitl [HF0_dst HF1_dst HF0 HF1]
  · isplitl [HF0_dst HF1_dst]
    · isplitl [HF0_dst]; · iexact HF0_dst
      iexact HF1_dst
    isplitl [HF0]
    · iapply (flight_landed c G _ _ _ fp0 _ _ _ h0 (hG 0))
      iexact HF0
    iapply (flight_landed c G _ _ _ fp1 _ _ _ h1 (hG 1))
    iexact HF1
  iexists _; iexact HW

set_option maxHeartbeats 1000000 in
/-- The last grid point: it waits for the two flights of the step two before, then, having started its own, for
    those of the step before and its own. All six pieces are home at `G`, if `G` holds at this step's the two halves the
    point computes, and both slots are free again. -/
theorem run_last (hc0 : cond0_0 (grid0.coords t)) (hc1 : cond0_1 (grid0.coords t))
    (hG : ∀ k, (wpiece0_0 (Ring.bk 8 t.val) k).view.read (Elt F) G = half x0 x1 x2 x3 x4 x5 k)
    (W : Waits sig Unit) (K : PUnit → sProp 𝕄) :
    iprop(staged c arg3 arg4 arg5 arg6 arg7 arg8 x0 x1 x2 x3 x4 x5
        ∗ (whome0_0 c (Ring.bk 8 t.val) ∗ flights c G (Ring.sl 2 t.val) (Ring.bk 8 (t.val - 2))
          ∗ flights c G (Ring.sl 2 (t.val + 1)) (Ring.bk 8 (t.val - 1)))
        ∗ owes (c : Thread nD τ) 0 W
        ∗ (iprop(staged c arg3 arg4 arg5 arg6 arg7 arg8 x0 x1 x2 x3 x4 x5
            ∗ ((written c G (Ring.bk 8 t.val) ∗ written c G (Ring.bk 8 (t.val - 2)) ∗ written c G (Ring.bk 8 (t.val - 1)))
              ∗ wfree0_0 c (Ring.sl 2 t.val) ∗ wfree0_0 c (Ring.sl 2 (t.val + 1)))
            ∗ (∃ W', owes (c : Thread nD τ) 0 W')) -∗ K ⟨⟩))
      ⊢ wp frame (wpE (defs₀ (F := F)) Variants.none c none) Set.univ
          (cc0__adapter_body (grid0.coords t) arg3 harg3 arg4 harg4 arg5 harg5 arg6 harg6 arg7 harg7 arg8 harg8
            (Memref.whole main_v0) (Memref.isWhole_whole _) scM0_0 (Memref.isWhole_whole _) cc0_scratch1) K := by
  haveI : Fact (cond0_0 (grid0.coords t)) := ⟨hc0⟩
  haveI : Fact (cond0_1 (grid0.coords t)) := ⟨hc1⟩
  simp only [cc0__adapter_body_eq_skeleton]; unfold cc0__adapter_body_skel
  simp only [k0_part3_eq_skeleton, k0_part4_eq_skeleton, k0_part1_eq_skeleton, k0_part2_eq_skeleton]
  unfold staged
  simp only [owns_eq c _ harg3, owns_eq c _ harg4, owns_eq c _ harg5, owns_eq c _ harg6, owns_eq c _ harg7, owns_eq c _ harg8]
  iintro ⟨⟨H0, H1, H2, H3, H4, H5⟩, ⟨⟨⟨%fp0, Hp0⟩, ⟨%fp1, Hp1⟩⟩, ⟨⟨%e0, HF0⟩, ⟨%e1, HF1⟩⟩, ⟨%i0, HI0⟩, ⟨%i1, HI1⟩⟩, HW, Hk⟩
  sl_exec (disch := first | sl_exact hc0 | sl_exact hc1)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  have h0 : run_last.sl.dma8 c t arg3 harg3 arg4 harg4 arg5 harg5 arg6 harg6 arg7 harg7 arg8 harg8 x0 x1 x2 x3 x4 x5 e0
      = half x0 x1 x2 x3 x4 x5 0 := by
    unfold run_last.sl.dma8 run_last.sl.HF0_src_w1 run_last.sl.r run_last.sl.r_1 run_last.sl.r_2 run_last.sl.r_3 run_last.sl.r_4 run_last.sl.r_5 run_last.sl.cst
    rw [loaded harg3, loaded harg4, loaded harg5, loaded harg6, loaded harg7, loaded harg8]
    exact tile_read (F := F) (Ring.sl 2 t.val) 0 _ (wcoff0_0_19 t) _ _ _
  have h1 : run_last.sl.dma10 c t arg3 harg3 arg4 harg4 arg5 harg5 arg6 harg6 arg7 harg7 arg8 harg8 x0 x1 x2 x3 x4 x5 e1
      = half x0 x1 x2 x3 x4 x5 1 := by
    unfold run_last.sl.dma10 run_last.sl.HF1_src_w2 run_last.sl.r run_last.sl.r_1 run_last.sl.r_2 run_last.sl.r_3 run_last.sl.r_4 run_last.sl.r_5 run_last.sl.cst
    rw [loaded harg3, loaded harg4, loaded harg5, loaded harg6, loaded harg7, loaded harg8]
    exact tile_read (F := F) (Ring.sl 2 t.val) 1 _ (wcoff0_0_20 t) _ _ _
  isplitr [HW]
  · isplitl [Hp0 Hp1 HF0_dst HF1_dst HI0_dst HI1_dst]
    · isplitl [Hp0 Hp1]
      · isplitl [Hp0]
        · iapply (piece_home c _ 0 fp0 G _ _ h0 (hG 0))
          iexact Hp0
        iapply (piece_home c _ 1 fp1 G _ _ h1 (hG 1))
        iexact Hp1
      isplitl [HF0_dst HF1_dst]
      · isplitl [HF0_dst]; · iexact HF0_dst
        iexact HF1_dst
      isplitl [HI0_dst]; · iexact HI0_dst
      iexact HI1_dst
    isplitl [HF0 HF0_src HF1 HF1_src]
    · isplitl [HF0 HF0_src]
      · isplitl [HF0]; · iexact HF0
        iexists _; iexact HF0_src
      isplitl [HF1]; · iexact HF1
      iexists _; iexact HF1_src
    isplitl [HI0 HI0_src]
    · isplitl [HI0]; · iexact HI0
      iexists _; iexact HI0_src
    isplitl [HI1]; · iexact HI1
    iexists _; iexact HI1_src
  iexists _; iexact HW

end Cert.KernelIdeal.Out

end
-- ==== Proof.KernelValue.Launch.lean ====
/- The kernel's launch with the result's contents named: if `G c` holds, at both pieces of every grid point, the two halves
   that the point computes from its six input blocks, then the run ends with the result at `G c` and the arguments as they
   were (`run_at`). The write-behind ring carries `G`: a piece behind the ring is held at `G`, and a flight delivers its
   piece at `G`. -/
module

public import proofs.«01_k».proof.Proof.KernelValue.Runs
public import proofs.«01_k».proof.Proof.Gen.KernelIdeal.Frame
public import Idealize.ShloMosaic.Lib.Pipeline.FrameValue

@[expose] public section

set_option maxRecDepth 16384

noncomputable section

namespace Cert.KernelIdeal.Out

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (G : (c : Dev nD) → HbBuf0 (F := F) c hbM0_0)

/-! ## The ring -/

/-- The write-behind ring before step `k`: pieces ahead at anything, pieces behind at `G`, flights delivering `G`. -/
def ringAt (c : Dev nD) (k : ℕ) : sProp 𝕄 := Ring.AtBΦ 2 (wfree0_0 c) (flights c (G c)) (whome0_0 c) (written c (G c)) k

/-- Before the first step nothing is behind and nothing in flight, so the ring is the one the launch is split into. -/
theorem ringAt_zero (c : Dev nD) : (ringAt G c 0 : sProp 𝕄) = wringAt0_0 c 0 := by
  unfold ringAt wringAt0_0
  rw [Ring.AtBΦ_lt _ _ _ _ _ 0 (by decide), Ring.AtB_zero, Ring.AtBΦ_lt _ _ _ _ _ 0 (by decide), Ring.AtB_zero]

/-- The sixteen pieces are the whole result. -/
theorem pieces_cover : Finset.univ.biUnion wpieceSet0_0 = Finset.univ := by
  rw [show (Finset.univ : Finset S1x4x2048x2048.Idx)
      = (Rect.unit (s := S1x4x2048x2048) (fun _ => 0) S1x4x2048x2048.size (fun a => by simp)).set from
    (Finset.eq_univ_iff_forall.2 fun x => Rect.mem_set_unit.2 fun a => ⟨Nat.zero_le _, by simpa using (x a).isLt⟩).symm]
  exact Ring.boxes_cover_grid (s := S1x4x2048x2048) S1x1x512x2048.size wpieceOff0_0 inb_wpiece0_0' _ _ _ wpieceIx0_0
    (fun i a => by fin_cases a <;> simp [wpieceOff0_0, wpieceIx0_0] <;> omega) ![1, 4, 4, 1] (by decide) (fun _ => 0) (by decide)
    (by decide +kernel) (by decide +kernel)

/-- A family of pairs that are pairwise disjoint pieces of one buffer, all at `f`, is their union at `f`. -/
theorem pairs_joined {ℓ : Loc nD τ sig} (f : Buf (Elt F) ℓ) (S : Fin 8 × Fin 2 → Finset (Idx ℓ)) (Φ : Fin 8 → Fin 2 → sProp 𝕄)
    (hΦ : ∀ u k, Φ u k = (ℓ ↦[S (u, k)]{fullShare} f)) (h : ∀ i i', i ≠ i' → Disjoint (S i) (S i')) :
    (bigSep Finset.univ (fun u => iprop(Φ u 0 ∗ Φ u 1)) : sProp 𝕄) = (ℓ ↦[Finset.univ.biUnion S]{fullShare} f) := by
  rw [pointsTo_biUnion Finset.univ S (fun i _ i' _ hi => h i i' hi), BI.bigSep_univ_prod]
  refine BI.bigSep_congr fun u _ => ?_
  rw [BI.bigSep_eq_bigSepL_of_eq [0, 1] (by decide) (by decide)]
  simp only [BI.bigSepL_cons_cons, BI.bigSepL_singleton, hΦ]
  rfl

/-- All pieces at `G` are the result whole at `G`. -/
theorem written_all (c : Dev nD) :
    (bigSep Finset.univ (written c (G c)) : sProp 𝕄) = (((c : Thread nD τ).loc main_v0) ↦{fullShare} G c) :=
  (pairs_joined (ℓ := (c : Thread nD τ).loc main_v0) (G c) wpieceSet0_0 (fun u k => wpieceP0_0 c u k (G c))
    (fun u k => wpieceP0_0_eq c u k (G c)) wpieces0_0_disjoint).trans (by rw [pieces_cover])

/-- After the last step the ring and the scratch's spare elements give back the scratch, the cells at zero and the result
    whole at `G`. -/
theorem ring_out (c : Dev nD) :
    iprop(ringAt G c 8 ∗ wtileSpare0_0 c)
      ⊢ (iprop((∃ d, owns (c : Thread nD τ) scM0_0 fullShare d)
          ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)
          ∗ (((c : Thread nD τ).loc main_v0) ↦{fullShare} G c)) : sProp 𝕄) := by
  unfold ringAt; rw [Ring.AtBΦ_ge _ _ _ _ _ 8 (by decide)]; unfold Ring.AtBEnd
  rw [written_all, ← wfrees0_0_eq, wcells0_0_eq]
  iintro ⟨⟨HP, HQ, HT⟩, HS⟩
  isplitl [HT HS]
  · iapply (wtiles0_0_out (F := F) c)
    isplitl [HT]; · iexact HT
    iexact HS
  isplitl [HQ]; · iexact HQ
  iexact HP

/-! ## The proof data and the body obligation -/

/-- The invariant before point `k`: the generator register at some state, the ring, and the elements of the scratch and of
    the result that no tile or piece holds. -/
def inv (c : Dev nD) (k : ℕ) : sProp 𝕄 :=
  iprop((∃ r, prngReg c r) ∗ (ringAt G c k ∗ wtileSpare0_0 c ∗ wpieceSpare0_0 c))

/-- The proof data: the frame's, with the invariant above. -/
def data (p : Fin 1) (c : Dev nD) : Dat τ (Elt F) Unit ℕ (Pipeline.UD sig nD τ) ℕ (cfgs p) c :=
  { dats m p c with Φ := fun t => inv G c t.val }

theorem data_A (c : Dev nD) (w : Fin cfg0.W) : (data m G 0 c).A w = V m c (Pipeline.arrRef spec0 w) := A_eq m c w

theorem data_after_0 (c : Dev nD) (t : Fin cfg0.N) : (data m G 0 c).after 0 t = iblk m c 0 t := after0_0 m c t
theorem data_after_1 (c : Dev nD) (t : Fin cfg0.N) : (data m G 0 c).after 1 t = iblk m c 1 t := after0_1 m c t
theorem data_after_2 (c : Dev nD) (t : Fin cfg0.N) : (data m G 0 c).after 2 t = iblk m c 2 t := after0_2 m c t
theorem data_after_3 (c : Dev nD) (t : Fin cfg0.N) : (data m G 0 c).after 3 t = iblk m c 3 t := after0_3 m c t
theorem data_after_4 (c : Dev nD) (t : Fin cfg0.N) : (data m G 0 c).after 4 t = iblk m c 4 t := after0_4 m c t
theorem data_after_5 (c : Dev nD) (t : Fin cfg0.N) : (data m G 0 c).after 5 t = iblk m c 5 t := after0_5 m c t

theorem data_before_0 (c : Dev nD) (t : Fin cfg0.N) (d) : (data m G 0 c).before 0 t d = iblk m c 0 t :=
  before0_0_of m (data m G 0 c) (data_A m G c 0) (data_after_0 m G c) t d
theorem data_before_1 (c : Dev nD) (t : Fin cfg0.N) (d) : (data m G 0 c).before 1 t d = iblk m c 1 t :=
  before0_1_of m (data m G 0 c) (data_A m G c 1) (data_after_1 m G c) t d
theorem data_before_2 (c : Dev nD) (t : Fin cfg0.N) (d) : (data m G 0 c).before 2 t d = iblk m c 2 t :=
  before0_2_of m (data m G 0 c) (data_A m G c 2) (data_after_2 m G c) t d
theorem data_before_3 (c : Dev nD) (t : Fin cfg0.N) (d) : (data m G 0 c).before 3 t d = iblk m c 3 t :=
  before0_3_of m (data m G 0 c) (data_A m G c 3) (data_after_3 m G c) t d
theorem data_before_4 (c : Dev nD) (t : Fin cfg0.N) (d) : (data m G 0 c).before 4 t d = iblk m c 4 t :=
  before0_4_of m (data m G 0 c) (data_A m G c 4) (data_after_4 m G c) t d
theorem data_before_5 (c : Dev nD) (t : Fin cfg0.N) (d) : (data m G 0 c).before 5 t d = iblk m c 5 t :=
  before0_5_of m (data m G 0 c) (data_A m G c 5) (data_after_5 m G c) t d

/-- The staging memrefs of point `t`, each owned at its block. -/
abbrev stagedAt (c : Dev nD) (t : Fin cfg0.N) : sProp 𝕄 :=
  staged c (ms0_0 t) (ms0_1 t) (ms0_2 t) (ms0_3 t) (ms0_4 t) (ms0_5 t)
    (iblk m c 0 t) (iblk m c 1 t) (iblk m c 2 t) (iblk m c 3 t) (iblk m c 4 t) (iblk m c 5 t)

/-- `G` holds the halves that every grid point computes. -/
def Holds : Prop := ∀ (c : Dev nD) (t : Fin cfg0.N) (k : Fin 2), (wpiece0_0 (Ring.bk 8 t.val) k).view.read (Elt F) (G c)
  = half (iblk m c 0 t) (iblk m c 1 t) (iblk m c 2 t) (iblk m c 3 t) (iblk m c 4 t) (iblk m c 5 t) k

/-- The body's triple at point `t` over the proof data: from the invariant before the point and the staged blocks to the invariant
    after it, the blocks as they were. -/
def Sound (c : Dev nD) (t : Fin cfg0.N) : Prop :=
  iprop((data m G 0 c).Φ t.castSucc ∗ (data m G 0 c).owesAt () t.castSucc
      ∗ (∃ d, owns (c : Thread nD τ) (ms0_0 t) fullShare ((data m G 0 c).before 0 t d))
      ∗ (∃ d, owns (c : Thread nD τ) (ms0_1 t) fullShare ((data m G 0 c).before 1 t d))
      ∗ (∃ d, owns (c : Thread nD τ) (ms0_2 t) fullShare ((data m G 0 c).before 2 t d))
      ∗ (∃ d, owns (c : Thread nD τ) (ms0_3 t) fullShare ((data m G 0 c).before 3 t d))
      ∗ (∃ d, owns (c : Thread nD τ) (ms0_4 t) fullShare ((data m G 0 c).before 4 t d))
      ∗ (∃ d, owns (c : Thread nD τ) (ms0_5 t) fullShare ((data m G 0 c).before 5 t d)))
    ⊢ wp frame (wpE (defs₀ (F := F)) Variants.none c none) Set.univ (bodyAt0 t) (fun _ =>
      iprop((data m G 0 c).Φ t.succ ∗ (data m G 0 c).owesAt () t.succ
        ∗ owns (c : Thread nD τ) (ms0_0 t) fullShare ((data m G 0 c).after 0 t)
        ∗ owns (c : Thread nD τ) (ms0_1 t) fullShare ((data m G 0 c).after 1 t)
        ∗ owns (c : Thread nD τ) (ms0_2 t) fullShare ((data m G 0 c).after 2 t)
        ∗ owns (c : Thread nD τ) (ms0_3 t) fullShare ((data m G 0 c).after 3 t)
        ∗ owns (c : Thread nD τ) (ms0_4 t) fullShare ((data m G 0 c).after 4 t)
        ∗ owns (c : Thread nD τ) (ms0_5 t) fullShare ((data m G 0 c).after 5 t)))

/-- A run of the body at point `t` that takes `P` and leaves `Q` is the body's triple over the proof data, if the ring
    before `t` is `P` and a rest, and the ring after it `Q` and that rest. -/
theorem sound_of_run (c : Dev nD) (t : Fin cfg0.N) (P Q R : sProp 𝕄) (hP : ringAt G c t.val ⊢ iprop(P ∗ R))
    (hQ : iprop(Q ∗ R) ⊢ ringAt G c (t.val + 1))
    (hrun : ∀ (W : Waits sig Unit) (K : PUnit → sProp 𝕄),
      iprop(stagedAt m c t ∗ P ∗ owes (c : Thread nD τ) 0 W
          ∗ (iprop(stagedAt m c t ∗ Q ∗ (∃ W', owes (c : Thread nD τ) 0 W')) -∗ K ⟨⟩))
        ⊢ wp frame (wpE (defs₀ (F := F)) Variants.none c none) Set.univ (bodyAt0 t) K) : Sound m G c t := by
  unfold Sound
  simp only [data_before_0, data_before_1, data_before_2, data_before_3, data_before_4, data_before_5]
  rw [data_after_0, data_after_1, data_after_2, data_after_3, data_after_4, data_after_5]
  rw [show (data m G 0 c).Φ t.castSucc = inv G c t.val from rfl, show (data m G 0 c).Φ t.succ = inv G c (t.val + 1) from rfl]
  unfold Dat.owesAt Pipeline.owesWithin inv
  rw [show (data m G 0 c).owed t.castSucc = 0 from rfl, show (data m G 0 c).owed t.succ = 0 from rfl]
  iintro ⟨⟨Hg, HR, HS⟩, ⟨%W, -, HW⟩, ⟨%d0, H0⟩, ⟨%d1, H1⟩, ⟨%d2, H2⟩, ⟨%d3, H3⟩, ⟨%d4, H4⟩, ⟨%d5, H5⟩⟩
  ihave HR' := hP $$ HR
  icases HR' with ⟨HP, HR⟩
  iapply (hrun W _)
  unfold stagedAt staged
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HP]; · iexact HP
  isplitl [HW]; · iexact HW
  iintro ⟨HO, HQ, ⟨%W', HW'⟩⟩
  isplitl [Hg HS HQ HR]
  · isplitl [Hg]; · iexact Hg
    isplitr [HS]
    · iapply hQ
      isplitl [HQ]; · iexact HQ
      iexact HR
    iexact HS
  isplitl [HW']
  · iexists W'; isplitr; · ipureintro; exact fun _ _ => Or.inl trivial
    iexact HW'
  iexact HO

/-- The result's pieces not yet copied to before step `k`, and those copied and waited for before it. -/
abbrev aheadOf (c : Dev nD) (k : ℕ) : sProp 𝕄 := bigSep (Ring.aheadSet (NB := 8) k) (whome0_0 c)
abbrev behindOf (c : Dev nD) (k : ℕ) : sProp 𝕄 := bigSep (Ring.behindSet (NB := 8) 2 k) (written c (G c))

/-- Point 0 finds its group of tiles free and waits for nothing. -/
theorem sound_zero (hG : Holds m G) (c : Dev nD) (t : Fin cfg0.N) (hz : t.val = 0) : Sound m G c t := by
  refine sound_of_run m G c t _ _ iprop(aheadOf c (t.val + 1) ∗ wfree0_0 c (Ring.sl 2 (t.val + 1))) ?_ ?_
    (run_first c t _ _ _ _ _ _ _ _ _ _ _ _ _ _ _ _ _ _ (G c) (fun h => by have := (hcond0_0 t).mp h; omega)
      (fun h => by have := (hcond0_1 t).mp h; omega) (hG c t))
  · unfold ringAt
    rw [Ring.AtBΦ_lt _ _ _ _ _ t.val (by omega), Ring.AtB2_zero' 2 _ _ _ _ t.val hz]
    iintro ⟨⟨HP, HA⟩, HS, HF⟩
    isplitl [HP HS]
    · isplitl [HP]; · iexact HP
      iexact HS
    isplitl [HA]; · iexact HA
    iexact HF
  · unfold ringAt
    rw [Ring.AtBΦ_lt _ _ _ _ _ (t.val + 1) (by omega), Ring.AtB22_next_zero' _ _ _ _ t.val hz]
    iintro ⟨HN, HA, HF⟩
    isplitl [HA]; · iexact HA
    isplitl [HF]; · iexact HF
    iexact HN

/-- Point 1 finds the other group free, point 0's copies still in flight. -/
theorem sound_one (hG : Holds m G) (c : Dev nD) (t : Fin cfg0.N) (hz : t.val = 1) : Sound m G c t := by
  refine sound_of_run m G c t _ _ iprop(aheadOf c (t.val + 1) ∗ flights c (G c) (Ring.sl 2 (t.val + 1)) (Ring.bk 8 (t.val - 1))) ?_ ?_
    (run_first c t _ _ _ _ _ _ _ _ _ _ _ _ _ _ _ _ _ _ (G c) (fun h => by have := (hcond0_0 t).mp h; omega)
      (fun h => by have := (hcond0_1 t).mp h; omega) (hG c t))
  · unfold ringAt
    rw [Ring.AtBΦ_lt _ _ _ _ _ t.val (by omega), Ring.AtB22_one' _ _ _ _ t.val hz (by decide)]
    iintro ⟨⟨HP, HA⟩, HS, HF⟩
    isplitl [HP HS]
    · isplitl [HP]; · iexact HP
      iexact HS
    isplitl [HA]; · iexact HA
    iexact HF
  · unfold ringAt
    rw [Ring.AtBΦ_lt _ _ _ _ _ (t.val + 1) (by omega), Ring.AtB22_next_one' _ _ _ _ t.val hz]
    iintro ⟨HN, HA, HF⟩
    isplitl [HA]; · iexact HA
    isplitl [HF]; · iexact HF
    iexact HN

/-- A point from 2 on, but the last, waits for the copies of the point two before. -/
theorem sound_middle (hG : Holds m G) (c : Dev nD) (t : Fin cfg0.N) (h2 : 2 ≤ t.val) (ht : t.val < 7) : Sound m G c t := by
  refine sound_of_run m G c t _ _
    iprop(aheadOf c (t.val + 1) ∗ behindOf G c t.val ∗ flights c (G c) (Ring.sl 2 (t.val + 1)) (Ring.bk 8 (t.val - 1))) ?_ ?_
    (run_middle c t _ _ _ _ _ _ _ _ _ _ _ _ _ _ _ _ _ _ (G c) ((hcond0_0 t).mpr h2)
      (fun h => by have := (hcond0_1 t).mp h; omega) (hG c t))
  · unfold ringAt
    rw [Ring.AtBΦ_lt _ _ _ _ _ t.val (by omega), Ring.AtB22_here _ _ _ _ t.val h2 (by omega)]
    iintro ⟨⟨HP, HA⟩, HB, HF, HI⟩
    isplitl [HP HF]
    · isplitl [HP]; · iexact HP
      iexact HF
    isplitl [HA]; · iexact HA
    isplitl [HB]; · iexact HB
    iexact HI
  · unfold ringAt
    rw [Ring.AtBΦ_lt _ _ _ _ _ (t.val + 1) (by omega), Ring.AtB22_next _ _ _ _ t.val h2 (by omega)]
    iintro ⟨⟨HD, HN⟩, HA, HB, HI⟩
    isplitl [HA]; · iexact HA
    isplitl [HD HB]
    · isplitl [HD]; · iexact HD
      iexact HB
    isplitl [HI]; · iexact HI
    iexact HN

/-- The last point waits for all that is in flight, its own copies too. -/
theorem sound_last (hG : Holds m G) (c : Dev nD) (t : Fin cfg0.N) (ht : t.val = 7) : Sound m G c t := by
  refine sound_of_run m G c t _ _ (behindOf G c t.val) ?_ ?_
    (run_last c t _ _ _ _ _ _ _ _ _ _ _ _ _ _ _ _ _ _ (G c) ((hcond0_0 t).mpr (by omega)) ((hcond0_1 t).mpr (by omega)) (hG c t))
  · unfold ringAt
    rw [Ring.AtBΦ_lt _ _ _ _ _ t.val (by omega), Ring.AtB22_here_last _ _ _ _ t.val (by omega) (by omega)]
    iintro ⟨HA, HB, HF, HI⟩
    isplitr [HB]
    · isplitl [HA]; · iexact HA
      isplitl [HF]; · iexact HF
      iexact HI
    iexact HB
  · unfold ringAt
    rw [Ring.AtBΦ_end _ _ _ _ _ (t.val + 1) (by omega), Ring.AtB22_drained _ _ t.val (by omega) (by omega)]
    iintro ⟨⟨⟨H1, H2, H3⟩, H4, H5⟩, HB⟩
    isplitr [H4 H5]
    · isplitl [H1]; · iexact H1
      isplitl [H2]; · iexact H2
      isplitl [H3]; · iexact H3
      iexact HB
    isplitl [H4]; · iexact H4
    iexact H5

/-- The triple at every point. -/
theorem sound (hG : Holds m G) (c : Dev nD) (t : Fin cfg0.N) : Sound m G c t := by
  have hN : t.val < 8 := lt_of_lt_of_eq t.isLt (show cfg0.N = 8 from N_0)
  rcases (show t.val = 0 ∨ t.val = 1 ∨ (2 ≤ t.val ∧ t.val < 7) ∨ t.val = 7 by omega) with h | h | ⟨h2, h7⟩ | h
  · exact sound_zero m G hG c t h
  · exact sound_one m G hG c t h
  · exact sound_middle m G hG c t h2 h7
  · exact sound_last m G hG c t h

/-- The body obligation. -/
theorem obligation (hG : Holds m G) (c : Dev nD) :
    BodyObligation (data m G 0 c) (defs₀ (F := F)) Variants.none () Set.univ := fun t => by
  rw [bigSep_W0, bigSep_W0, defs₀_row]
  exact triple_restated (sound m G hG c t) rfl .rfl fun _ => .rfl

/-! ## The launch -/

/-- The contents of the buffers the body writes: the result at `G`. -/
def written₀ (c : Dev nD) (b : Ref sig .tc) : Buf (Elt F) ((c.tc : Thread nD τ).loc b) := Function.update (V m c) main_v0 (G c) b

theorem written₀_result (c : Dev nD) : written₀ m G c main_v0 = G c := by unfold written₀; rw [Function.update_self]

/-- What the launch hands the region is the invariant before the first point. -/
theorem region_in (c : Dev nD) : Pipeline.ΦDRG osem0 spec0 H0 R0 (V m) (V m) c ⊢ (data m G 0 c).Φ 0 := by
  refine (Pipeline.ΦDRG_ΦDR osem0 spec0 H0 R0 (V m) (V m) c).trans ((hin m c).trans ?_)
  rw [show (dats m 0 c).Φ 0 = PhiR m c 0 from rfl, show (data m G 0 c).Φ 0 = inv G c 0 from rfl]
  unfold PhiR inv
  rw [ringAt_zero]

/-- The invariant after the last point hands the region back, with the result at `G`. -/
theorem region_out (c : Dev nD) : (data m G 0 c).Φ (Fin.last cfg0.N) ⊢ Pipeline.ΦDRG osem0 spec0 H0 R0 (V m) (written₀ m G) c := by
  rw [Pipeline.ΦDRG_eq, scopedRest0_eq, ownSems00_eq, hbmPts0_eq, show R0 = {main_v0} from rfl, Pipeline.routed_singleton, written₀_result,
    show (data m G 0 c).Φ (Fin.last cfg0.N) = inv G c grid0.N from rfl, show grid0.N = 8 by rw [N_0]]
  unfold inv
  iintro ⟨Hg, HR, HT, -⟩
  ihave HX := (ring_out G c) $$ [HR HT]
  · isplitl [HR]; · iexact HR
    iexact HT
  icases HX with ⟨HS, HQ, HP⟩
  isplitl [HS]
  · simp only [scM0_0, owns_whole]
    iexact HS
  isplitl [Hg]; · iexact Hg
  isplitl [HQ]; · iexact HQ
  isplitr; · iempintro
  iexact HP

set_option backward.isDefEq.respectTransparency.types false in
/-- Every weakly fair execution of the kernel ends with the windows' arrays at what the proof data compute, the result at `G` and
    every counter at zero. -/
theorem run_post (hG : Holds m G) : θ_run defs (onTc (τ := τ) (main (F := F))) (s₀ m ρ)
    (fun r => Pipeline.FramePostRG cfgs (data m G) 0 R0 (V m) (written₀ m G) r ∧ r.2.sem = fun _ => 0) :=
  Pipeline.θ_run_frame_dmaRG_shared (Q' := _) cfgs (data m G) (0 : Fin 1) launch₀0 osem0 defs₀ Variants.none ownSemFacts0 H0 R0 H0_sub R0_sub m ρ main
    (hbody := fun c => (obligation m G hG c).loose) (hq := fun _ _ _ => rfl) (howed := fun _ _ => rfl) (V := V m)
    (hmain := hmain m Variants.none) (hA := data_A m G) (G := written₀ m G) (hin := region_in m G) (hout := region_out m G)

/-- The kernel's run: the result ends at `G`, the arguments as they were. -/
theorem run_at (hG : Holds m G) : θ_run defs (onTc (τ := τ) (main (F := F))) ⟨m, fun _ => 0, ρ⟩ (fun r => ∀ c : Dev nD,
      r.2.mem ((c.tc : Thread nD τ).loc main_v0) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hrun := run_post m ρ G hG
  have hargs := frame_of m ρ (data m G) (data_A m G) ((θ_run defs _ _).mono (fun _ h => h.1.1) hrun)
  have hres := (θ_run defs _ _).mono (fun r h (c : Dev nD) =>
    (h.1.written c (b := main_v0) (by decide)).trans (written₀_result m G c)) hrun
  exact (θ_run defs _ _).mono (fun r h c => ⟨h.1 c, h.2 c⟩) (θ_run_and hres hargs)

end Cert.KernelIdeal.Out

end
-- ==== Proof.KernelValue.Arrays.lean ====
/- The arrays that the kernel's windows stage, as functions of the arguments: the chosen adapter's down weights, down bias and
   up weights, each gathered by the host before the kernel is launched. -/
module

public import proofs.«01_k».proof.Proof.Gen.KernelIdeal.Frame.Runs
public import Idealize.ShloMosaic.Lib.StableHlo.RunRead
public import Idealize.ShloMosaic.Lib.Tactic.CleanTypes

@[expose] public section

set_option maxRecDepth 16384

noncomputable section

namespace Cert.KernelIdeal.Out

open Cert.KernelIdeal.Gen
open Idealize.ShloMosaic Idealize.ShloMosaic.TcCoe

variable {F : FTy → Type} [FloatOps F]

/-- Two columns of index words side by side. -/
def sideBySide (a b : Vec F S1x4x1 .i32) : Vec F S1x4x2 .i32 :=
  concatenate S1x4x2 2 [⟨S1x4x1, a⟩, ⟨S1x4x1, b⟩] concatenates_S1x4x1_S1x4x1_S1x4x2_d2

/-- The indices of the gathers: router 0 and, for each batch row, the chosen adapter, a negative choice counted from the end. -/
def chosen (e : Vec F S1x4 .i32) : Vec F S1x4x2 .i32 :=
  sideBySide
    (broadcastInDim S1x4x1 ![0, 1] bcast_S1x4_S1x4x1_0_1 (broadcastInDim S1x4 ![0, 1] bcast_S1x1_S1x4_0_1
      (select (cmpi .slt (broadcastInDim S1x1 ![0] bcast_S1_S1x1_0 (iotaInDim S1 32 0)) (broadcastInDim S1x1 ![] bcast_S_S1x1 (constantI S_ 32 0#32)))
        (addi (broadcastInDim S1x1 ![0] bcast_S1_S1x1_0 (iotaInDim S1 32 0)) (broadcastInDim S1x1 ![] bcast_S_S1x1 (constantI S_ 32 1#32)))
        (broadcastInDim S1x1 ![0] bcast_S1_S1x1_0 (iotaInDim S1 32 0)))))
    (broadcastInDim S1x4x1 ![0, 1] bcast_S1x4_S1x4x1_0_1
      (select (cmpi .slt e (broadcastInDim S1x4 ![] bcast_S_S1x4 (constantI S_ 32 0#32)))
        (addi e (broadcastInDim S1x4 ![] bcast_S_S1x4 (constantI S_ 32 64#32))) e))

/-- The chosen adapters' down weights, one matrix for each batch row. -/
def downOf (e : Vec F S1x4 .i32) (w : Vec F S1x64x2048x32 .f32) : Vec F S1x4x2048x32 .f32 :=
  Host.gather gather_S1x64x2048x32_S1x4x2_S1x4x2048x32_23_01_n_n_01_2_11204832 w (chosen e)

/-- The chosen adapters' down biases, one vector for each batch row. -/
def biasOf (e : Vec F S1x4 .i32) (b : Vec F S1x64x32 .f32) : Vec F S1x4x32 .f32 :=
  Host.gather gather_S1x64x32_S1x4x2_S1x4x32_2_01_n_n_01_2_1132 b (chosen e)

/-- The chosen adapters' up weights, one matrix for each batch row. -/
def upOf (e : Vec F S1x4 .i32) (w : Vec F S1x64x32x2048 .f32) : Vec F S1x4x32x2048 .f32 :=
  Host.gather gather_S1x64x32x2048_S1x4x2_S1x4x32x2048_23_01_n_n_01_2_11322048 w (chosen e)

variable (m : (ℓ : Loc nD τ sig) → Buf (Elt F) ℓ) (c : Dev nD)

set_option maxHeartbeats 4000000 in
/-- What the windows of the down weights stage. -/
theorem V_down : V m c main_call0_v16 = downOf (m ((c : Thread nD τ).loc main_arg1)) (m ((c : Thread nD τ).loc main_arg2)) := by
  unfold V
  after_reads_simp
  simp -implicitDefEqProofs only [StableHlo.TRef.toBuf, StableHlo.TRef.ofBuf, cast_cast, cast_eq]
  clean_types
  change Host.gather gather_S1x64x2048x32_S1x4x2_S1x4x2048x32_23_01_n_n_01_2_11204832 _ (sideBySide _ _) = _
  after_reads_simp
  rfl

set_option maxHeartbeats 4000000 in
/-- What the window of the down bias stages: the gathered biases with a row axis of one. -/
theorem V_bias : V m c main_call0_v32
    = shapeCast S1x4x1x32 (biasOf (m ((c : Thread nD τ).loc main_arg1)) (m ((c : Thread nD τ).loc main_arg3))) shapeCasts_S1x4x32_S1x4x1x32 := by
  unfold V
  after_reads_simp
  simp -implicitDefEqProofs only [StableHlo.TRef.toBuf, StableHlo.TRef.ofBuf, cast_cast, cast_eq]
  clean_types
  change shapeCast _ (Host.gather gather_S1x64x32_S1x4x2_S1x4x32_2_01_n_n_01_2_1132 _ (sideBySide _ _)) _ = _
  after_reads_simp
  rfl

set_option maxHeartbeats 4000000 in
/-- What the window of the up weights stages. -/
theorem V_up : V m c main_call0_v47 = upOf (m ((c : Thread nD τ).loc main_arg1)) (m ((c : Thread nD τ).loc main_arg4)) := by
  unfold V
  after_reads_simp
  simp -implicitDefEqProofs only [StableHlo.TRef.toBuf, StableHlo.TRef.ofBuf, cast_cast, cast_eq]
  clean_types
  change Host.gather gather_S1x64x32x2048_S1x4x2_S1x4x32x2048_23_01_n_n_01_2_11322048 _ (sideBySide _ _) = _
  after_reads_simp
  rfl

end Cert.KernelIdeal.Out

end
-- ==== Proof.KernelValue.Blocks.lean ====
/- The six blocks that a grid point stages, read at an index: point `2 b + q` stages batch row `b` — of the input's row block `q` the
   two column halves, and of the gathered arrays the row's down weights (two halves), down bias and up weights. -/
module

public import proofs.«01_k».proof.Proof.KernelValue.Arrays
public import Idealize.ShloMosaic.Lib.Pipeline.ValueKit.Point
public import Idealize.ShloMosaic.Lib.PointwiseCore

@[expose] public section

set_option maxRecDepth 16384

noncomputable section

namespace Cert.KernelIdeal.Out

open Cert.KernelIdeal.Gen
open Idealize.ShloMosaic Idealize.ShloMosaic.TcCoe

variable {F : FTy → Type} [FloatOps F]
variable (m : (ℓ : Loc nD τ sig) → Buf (Elt F) ℓ) (c : Dev nD) (t : Fin cfg0.N)

/-- The batch row of a grid point. -/
def row (t : Fin cfg0.N) : Fin 4 := ⟨t.val / 2, by have := t.isLt; have : cfg0.N = 8 := N_0; omega⟩

/-- The input row that row `r` of a grid point's block is. -/
def seq (t : Fin cfg0.N) (r : Fin 1024) : Fin 2048 := ⟨1024 * (t.val % 2) + r.val, by omega⟩

/-- The block indices of the six windows. -/
theorem places (t : Fin grid0.N) :
    win0_0.index t = ![t.val / 2, t.val % 2, 0] ∧ win0_1.index t = ![t.val / 2, t.val % 2, 1]
    ∧ win0_2.index t = ![0, t.val / 2, 0, 0] ∧ win0_3.index t = ![0, t.val / 2, 1, 0]
    ∧ win0_4.index t = ![0, t.val / 2, 0, 0] ∧ win0_5.index t = ![0, t.val / 2, 0, 0] :=
  (by decide +kernel : ∀ t : Fin grid0.N, win0_0.index t = ![t.val / 2, t.val % 2, 0] ∧ win0_1.index t = ![t.val / 2, t.val % 2, 1]
    ∧ win0_2.index t = ![0, t.val / 2, 0, 0] ∧ win0_3.index t = ![0, t.val / 2, 1, 0]
    ∧ win0_4.index t = ![0, t.val / 2, 0, 0] ∧ win0_5.index t = ![0, t.val / 2, 0, 0]) t

/-- The input's left half of a row. -/
theorem block_left (r : Fin 1024) (d : Fin 1024) :
    iblk m c 0 t (ix3 0 r d) = m ((c : Thread nD τ).loc main_arg0) (ix3 (row t) (seq t r) ⟨d.val, by omega⟩) := by
  blk_ext [iblk, V, row, seq, places t]

/-- The input's right half of a row. -/
theorem block_right (r : Fin 1024) (d : Fin 1024) :
    iblk m c 1 t (ix3 0 r d) = m ((c : Thread nD τ).loc main_arg0) (ix3 (row t) (seq t r) ⟨1024 + d.val, by omega⟩) := by
  blk_ext [iblk, V, row, seq, places t]

/-- The chosen adapters' down weights, down biases and up weights over a memory. -/
abbrev downM : Vec F S1x4x2048x32 .f32 := downOf (m ((c : Thread nD τ).loc main_arg1)) (m ((c : Thread nD τ).loc main_arg2))
abbrev biasM : Vec F S1x4x32 .f32 := biasOf (m ((c : Thread nD τ).loc main_arg1)) (m ((c : Thread nD τ).loc main_arg3))
abbrev upM : Vec F S1x4x32x2048 .f32 := upOf (m ((c : Thread nD τ).loc main_arg1)) (m ((c : Thread nD τ).loc main_arg4))

/-- The upper half of the row's down weights. -/
theorem block_upper (d : Fin 1024) (h : Fin 32) :
    iblk m c 2 t (ix4 0 0 d h) = downM m c (ix4 0 (row t) ⟨d.val, by omega⟩ h) := by
  refine Eq.trans ?_ (congrFun (V_down m c) _)
  blk_ext [iblk, row, places t]

/-- The lower half of the row's down weights. -/
theorem block_lower (d : Fin 1024) (h : Fin 32) :
    iblk m c 3 t (ix4 0 0 d h) = downM m c (ix4 0 (row t) ⟨1024 + d.val, by omega⟩ h) := by
  refine Eq.trans ?_ (congrFun (V_down m c) _)
  blk_ext [iblk, row, places t]

/-- The bias read with its row axis of one. -/
theorem bias_cast (v : Vec F S1x4x32 .f32) (b : Fin 4) (h : Fin 32) :
    shapeCast S1x4x1x32 v shapeCasts_S1x4x32_S1x4x1x32 (ix4 0 b 0 h) = v (ix3 0 b h) := by
  pointwise

/-- The row's down bias. -/
theorem block_bias (h : Fin 32) :
    iblk m c 4 t (ix4 0 0 0 h) = biasM m c (ix3 0 (row t) h) := by
  refine Eq.trans ?_ ((congrFun (V_bias m c) (ix4 0 (row t) 0 h)).trans (bias_cast _ _ _))
  blk_ext [iblk, row, places t]

/-- The row's up weights. -/
theorem block_up (h : Fin 32) (n : Fin 2048) :
    iblk m c 5 t (ix4 0 0 h n) = upM m c (ix4 0 (row t) h n) := by
  refine Eq.trans ?_ (congrFun (V_up m c) _)
  blk_ext [iblk, row, places t]

end Cert.KernelIdeal.Out

end
-- ==== Proof.KernelValue.Result.lean ====
/- The kernel's result over the ideal floats, index by index: with `z b s h = Σ_d x b s d · down b d h + bias b h`, the result at
   `(0, b, s, n)` is `Σ_h z b s h · logistic (z b s h) · up b h n`. -/
module

public import proofs.«01_k».proof.Proof.KernelValue.Launch
public import proofs.«01_k».proof.Proof.KernelValue.Blocks
public import Idealize.ShloMosaic.Lib.Pointwise
public import Idealize.ShloMosaic.Lib.Tactic.CleanTypes

@[expose] public section

set_option maxRecDepth 16384

noncomputable section

namespace Cert.KernelIdeal.Out

open Cert.KernelIdeal.Gen
open Idealize.ShloMosaic Idealize.ShloMosaic.TcCoe

variable {F : FTy → Type} [FloatOps F]

/-- The hidden vector of input row `(b, s)` before its activation. -/
def hidden (x : Vec Ideal S4x2048x2048 .f32) (down : Vec Ideal S1x4x2048x32 .f32) (bias : Vec Ideal S1x4x32 .f32)
    (b : Fin 4) (s : Fin 2048) (h : Fin 32) : EReal :=
  ∑ d : Fin 2048, x (ix3 b s d) * down (ix4 0 b d h) + bias (ix3 0 b h)

/-- The activation `z ↦ z · 1 / (1 + e^(-z))`. -/
def swish (z : EReal) : EReal := z * Ideal.logistic z

/-- The result. -/
def result (x : Vec Ideal S4x2048x2048 .f32) (down : Vec Ideal S1x4x2048x32 .f32) (bias : Vec Ideal S1x4x32 .f32)
    (up : Vec Ideal S1x4x32x2048 .f32) : Vec Ideal S1x4x2048x2048 .f32 :=
  fun i => ∑ h : Fin 32, swish (hidden x down bias (i 1) (i 2) h) * up (ix4 0 (i 1) h (i 3))

/-- The hidden entry that a grid point computes from its blocks: the two halves of the contraction, then the bias. -/
def blockHidden (x0 x1 : Vec Ideal S1x1024x1024 .f32) (x2 x3 : Vec Ideal S1x1x1024x32 .f32) (x4 : Vec Ideal S1x1x1x32 .f32)
    (r : Fin 1024) (h : Fin 32) : EReal :=
  ∑ d : Fin 1024, x0 (ix3 0 r d) * x2 (ix4 0 0 d h) + ∑ d : Fin 1024, x1 (ix3 0 r d) * x3 (ix4 0 0 d h) + x4 (ix4 0 0 0 h)

/-- The row of a point's block that row `r` of half `k` is. -/
def inHalf (k : Fin 2) (r : Fin 512) : Fin 1024 := ⟨512 * k.val + r.val, by omega⟩

/-- The halves at an index. -/
theorem half_apply (x0 x1 : Vec Ideal S1x1024x1024 .f32) (x2 x3 : Vec Ideal S1x1x1024x32 .f32) (x4 : Vec Ideal S1x1x1x32 .f32)
    (x5 : Vec Ideal S1x1x32x2048 .f32) (k : Fin 2) (r : Fin 512) (n : Fin 2048) :
    half (F := Ideal) x0 x1 x2 x3 x4 x5 k (ix2 r n)
      = (∑ h : Fin 32, swish (blockHidden x0 x1 x2 x3 x4 (inHalf k r) h) * x5 (ix4 0 0 h n) : EReal) := by
  fin_cases k
  · show half (F := Ideal) x0 x1 x2 x3 x4 x5 0 (ix2 r n) = _
    unfold half swish blockHidden inHalf
    pointwise [k0_pay1, k0_pay2, k0_pay3, k0_pay4, k0_pay5, k0_pay6, k0_pay7, k0_pay8]
  · show half (F := Ideal) x0 x1 x2 x3 x4 x5 1 (ix2 r n) = _
    unfold half swish blockHidden inHalf
    pointwise [k0_pay1, k0_pay2, k0_pay3, k0_pay4, k0_pay5, k0_pay6, k0_pay7, k0_pay9]

variable (m : (ℓ : Loc nD τ sig) → Buf (Elt Ideal) ℓ) (c : Dev nD)

/-- The result's contents after the kernel. -/
def resultM : HbBuf0 (F := Ideal) c hbM0_0 := result (m ((c : Thread nD τ).loc main_arg0)) (downM m c) (biasM m c) (upM m c)

/-- A grid point's hidden entry is the hidden vector's: the two halves of the contraction are its sum. -/
theorem blockHidden_eq (t : Fin cfg0.N) (r : Fin 1024) (h : Fin 32) :
    blockHidden (iblk m c 0 t) (iblk m c 1 t) (iblk m c 2 t) (iblk m c 3 t) (iblk m c 4 t) r h
      = hidden (m ((c : Thread nD τ).loc main_arg0)) (downM m c) (biasM m c) (row t) (seq t r) h := by
  unfold blockHidden hidden
  rw [Fin.sum_univ_two_halves 1024 1024 rfl]
  simp only [block_left, block_right, block_upper, block_lower, block_bias]

/-- A slice of a memref, squeezed, reads what the memref reads inside the slice, reshaped. -/
theorem read_squeezed {sp : Space} {s s' : Shape} {e : EltTy} (M : Memref sig .tc sp s e) (off size : Fin s.rank → Nat)
    (inb : ∀ a, off a + size a ≤ s.size a) (hr : ∀ a, (Rect.unit off size inb).stride a = 1)
    (hs : (⟨s.rank, size⟩ : Shape).Squeezes s') (f : M.view.ty.Contents (Elt F)) :
    ((M.slice (Rect.unit off size inb) hr).squeeze s' hs).view.read (Elt F) f
      = shapeCast s' (View.ld (M.view.read (Elt F) f) (Rect.unit off size inb)) hs.numel_eq :=
  rfl

/-- A piece with its unit axes dropped. -/
theorem piece_cast (v : Vec Ideal S1x1x512x2048 .f32) (h : S512x2048.numel = S1x1x512x2048.numel) (r : Fin 512) (n : Fin 2048) :
    shapeCast S512x2048 v h (ix2 r n) = v (ix4 0 0 r n) := by
  pointwise

/-- The result's row that row `r` of half `k` of a grid point's block is. -/
theorem piece_apply (t : Fin cfg0.N) (k : Fin 2) (g : HbBuf0 (F := Ideal) c hbM0_0) (r : Fin 512) (n : Fin 2048) :
    (wpiece0_0 (Ring.bk 8 t.val) k).view.read (Elt Ideal) g (ix2 r n) = g (ix4 0 (row t) (seq t (inHalf k r)) n) := by
  have hu : (Ring.bk 8 t.val).val = t.val := Ring.bk_val (lt_of_lt_of_eq t.isLt (show cfg0.N = 8 from N_0))
  unfold wpiece0_0
  refine (congrFun (read_squeezed hbM0_0 _ S1x1x512x2048.size _ _ squeezes_S1x1x512x2048_S512x2048 g) _).trans ?_
  rw [show hbM0_0.view.read (Elt Ideal) g = g from rfl]
  refine (piece_cast _ _ r n).trans (congrArg g (funext fun a => Fin.ext ?_))
  fin_cases a
  · rfl
  · show (Ring.bk 8 t.val).val / 2 + 1 * 0 = t.val / 2
    omega
  · show 1024 * ((Ring.bk 8 t.val).val % 2) + 512 * k.val + 1 * r.val = 1024 * (t.val % 2) + (512 * k.val + r.val)
    omega
  · show 0 + 1 * n.val = n.val
    omega

/-- Each piece of the result reads the half that its grid point computes. -/
theorem resultM_holds : Holds m (resultM m) := by
  intro c t k
  funext i
  obtain ⟨r, n, rfl⟩ : ∃ (r : Fin 512) (n : Fin 2048), i = ix2 r n := ⟨i 0, i 1, eq_ix2 i⟩
  rw [half_apply, piece_apply]
  simp only [blockHidden_eq, block_up]
  rfl

end Cert.KernelIdeal.Out

end
-- ==== Proof.KernelValue.Reference.lean ====
/- The reference's result over the ideal floats, index by index: the same function of the arguments as the kernel's. -/
module

public import proofs.«01_k».proof.Proof.KernelValue.Result
public import proofs.«01_k».proof.Proof.Gen.ReferenceIdeal.Run
public import Idealize.ShloMosaic.Lib.Quiescent

@[expose] public section

set_option maxRecDepth 16384

noncomputable section

namespace Cert.ReferenceIdeal.Out

open Cert.ReferenceIdeal Cert.ReferenceIdeal.Gen
open Cert.KernelIdeal.Out (downOf biasOf upOf hidden swish result)
open Idealize.ShloMosaic Idealize.ShloMosaic.TcCoe Idealize.SL.Sem

variable (m : (ℓ : Loc nD τ sig) → Buf (Elt Ideal) ℓ) (c : Dev nD)

/-- The function of the arguments that both programs compute, at the reference's arguments. -/
def resultR : Vec Ideal S1x4x2048x2048 .f32 :=
  result (m ((c : Thread nD τ).loc main_arg0))
    (downOf (m ((c : Thread nD τ).loc main_arg1)) (m ((c : Thread nD τ).loc main_arg2)))
    (biasOf (m ((c : Thread nD τ).loc main_arg1)) (m ((c : Thread nD τ).loc main_arg3)))
    (upOf (m ((c : Thread nD τ).loc main_arg1)) (m ((c : Thread nD τ).loc main_arg4)))

set_option maxHeartbeats 4000000 in
/-- The reference's composed term is that function. -/
theorem res_eq : Value.res_main_v65 (F := Ideal) m c = resultR m c := by
  funext i
  obtain ⟨a, b, s, n, rfl⟩ : ∃ (a : Fin 1) (b : Fin 4) (s n : Fin 2048), i = ix4 a b s n := ⟨i 0, i 1, i 2, i 3, eq_ix4 i⟩
  obtain rfl : a = 0 := Subsingleton.elim _ _
  unfold Value.res_main_v65 resultR
  clean_types
  generalize hA : Host.gather gather_S1x64x2048x32_S1x4x2_S1x4x2048x32_23_01_n_n_01_2_11204832 _ _ = A
  generalize hB : Host.gather gather_S1x64x32_S1x4x2_S1x4x32_2_01_n_n_01_2_1132 _ _ = B
  generalize hC : Host.gather gather_S1x64x32x2048_S1x4x2_S1x4x32x2048_23_01_n_n_01_2_11322048 _ _ = C
  rw [show downOf (F := Ideal) (m ((c : Thread nD τ).loc main_arg1)) (m ((c : Thread nD τ).loc main_arg2)) = A from hA,
    show biasOf (F := Ideal) (m ((c : Thread nD τ).loc main_arg1)) (m ((c : Thread nD τ).loc main_arg3)) = B from hB,
    show upOf (F := Ideal) (m ((c : Thread nD τ).loc main_arg1)) (m ((c : Thread nD τ).loc main_arg4)) = C from hC]
  clear hA hB hC
  pointwise
  rfl

/-- The reference's signature has no semaphores. -/
theorem no_sems : sig.nSem + sig.nDmaSem = 0 := rfl

/-- The reference terminates with its arguments unchanged and, having none, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems no_sems r.2⟩) (Value.run m ρ)

end Cert.ReferenceIdeal.Out

end
-- ==== Proof.lean ====
/- The five claims of `Cert.Claim`: the frames of the kernel, of its idealization and of the reference (each terminates, leaves
   its arguments unchanged and every semaphore counter at zero), that the idealization rewrites nothing, and that over the
   ideal floats the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.ReferenceIdeal.Run
public import proofs.«01_k».proof.Proof.KernelValue.Reference
public import Idealize.ShloMosaic.Adequacy
public import Idealize.ShloMosaic.Init

@[expose] public section

noncomputable section

namespace Cert.Proof

open Idealize.ShloMosaic Idealize.SL.Sem Cert.Kernel

/-- From memories that agree on the arguments, the kernel and the reference end with the same result, the kernel's
    `resultM`, and leave their arguments unchanged. -/
theorem equal : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Out.resultM m c,
    Cert.KernelIdeal.Out.run_at m g (Cert.KernelIdeal.Out.resultM m) (Cert.KernelIdeal.Out.resultM_holds m),
    (θ_run _ _ _).mono (fun r h c => ⟨((h c).1.trans (Cert.ReferenceIdeal.Out.res_eq m' c)).trans ?_, (h c).2⟩)
      (Cert.ReferenceIdeal.Value.run m' g')⟩
  obtain ⟨h0, h1, h2, h3, h4⟩ := hargs c
  unfold Cert.ReferenceIdeal.Out.resultR
  rw [h0, h1, h2, h3, h4]
  rfl

/-- The five claims. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Out.frame m ρ,
    trivial,
    equal⟩

end Cert.Proof

end
